-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x4096x8x128 : Shape := ⟨4, ![16, 4096, 8, 128]⟩
abbrev S16x4096x8x64 : Shape := ⟨4, ![16, 4096, 8, 64]⟩
abbrev S16x4096x256 : Shape := ⟨3, ![16, 4096, 256]⟩
abbrev S16x4096x64 : Shape := ⟨3, ![16, 4096, 64]⟩
abbrev S16x4096x1024 : Shape := ⟨3, ![16, 4096, 1024]⟩
abbrev S256x8x128 : Shape := ⟨3, ![256, 8, 128]⟩
abbrev S_ : Shape := ⟨0, ![]⟩

class Facts : Prop where
  bcast_S_S16x4096x8x128 : S_.BroadcastsInDim S16x4096x8x128 (![] : Fin 0 → Fin S16x4096x8x128.rank)
  reducesTo_S16x4096x8x128_S_d0_1_2_3 : S16x4096x8x128.ReducesTo [0, 1, 2, 3] S_
  h_S_ : 0 < S_.numel
  bcast_S_S16x4096x8x64 : S_.BroadcastsInDim S16x4096x8x64 (![] : Fin 0 → Fin S16x4096x8x64.rank)
  reducesTo_S16x4096x8x64_S_d0_1_2_3 : S16x4096x8x64.ReducesTo [0, 1, 2, 3] S_
  bcast_S_S16x4096x256 : S_.BroadcastsInDim S16x4096x256 (![] : Fin 0 → Fin S16x4096x256.rank)
  reducesTo_S16x4096x256_S_d0_1_2 : S16x4096x256.ReducesTo [0, 1, 2] S_
  bcast_S_S16x4096x64 : S_.BroadcastsInDim S16x4096x64 (![] : Fin 0 → Fin S16x4096x64.rank)
  reducesTo_S16x4096x64_S_d0_1_2 : S16x4096x64.ReducesTo [0, 1, 2] S_
  bcast_S_S256x8x128 : S_.BroadcastsInDim S256x8x128 (![] : Fin 0 → Fin S256x8x128.rank)
  reducesTo_S256x8x128_S_d0_1_2 : S256x8x128.ReducesTo [0, 1, 2] S_

variable [Facts]

def fn_part1 {F : FTy → Type} [FloatOps F] (main_arg5 : FVec F S256x8x128 .f32) (main_arg6 : FVec F S256x8x128 .f32) (main_v13 : IVec S_ 1) (main_v16 : IVec S16x4096x64 1) : IVec S_ 1 :=
  let main_c_5 : IVec S_ 1 := constantI S_ 1 1#1
  let main_v17 : IVec S_ 1 := (fun x v => Host.reduce IntOp.andi x v reducesTo_S16x4096x64_S_d0_1_2 h_S_) main_v16 main_c_5
  let main_v18 : IVec S_ 1 := andi main_v13 main_v17
  let main_v19 : FVec F S256x8x128 .f32 := Host.absf main_arg5
  let main_cst_6 : FVec F S_ .f32 := constant S_ .f32 0x7F800000#32
  let main_v20 : FVec F S256x8x128 .f32 := broadcastInDim S256x8x128 ![] bcast_S_S256x8x128 main_cst_6
  let main_v21 : IVec S256x8x128 1 := cmpf .olt main_v19 main_v20
  let main_c_7 : IVec S_ 1 := constantI S_ 1 1#1
  let main_v22 : IVec S_ 1 := (fun x v => Host.reduce IntOp.andi x v reducesTo_S256x8x128_S_d0_1_2 h_S_) main_v21 main_c_7
  let main_v23 : IVec S_ 1 := andi main_v18 main_v22
  let main_v24 : FVec F S256x8x128 .f32 := Host.absf main_arg6
  let main_cst_8 : FVec F S_ .f32 := constant S_ .f32 0x7F800000#32
  let main_v25 : FVec F S256x8x128 .f32 := broadcastInDim S256x8x128 ![] bcast_S_S256x8x128 main_cst_8
  let main_v26 : IVec S256x8x128 1 := cmpf .olt main_v24 main_v25
  let main_c_9 : IVec S_ 1 := constantI S_ 1 1#1
  let main_v27 : IVec S_ 1 := (fun x v => Host.reduce IntOp.andi x v reducesTo_S256x8x128_S_d0_1_2 h_S_) main_v26 main_c_9
  let main_v28 : IVec S_ 1 := andi main_v23 main_v27
  main_v28

def fn {F : FTy → Type} [FloatOps F] (main_arg0 : FVec F S16x4096x8x128 .f32) (main_arg1 : FVec F S16x4096x8x64 .f32) (main_arg2 : FVec F S16x4096x256 .f32) (main_arg3 : FVec F S16x4096x64 .f32) (main_arg4 : FVec F S16x4096x1024 .f32) (main_arg5 : FVec F S256x8x128 .f32) (main_arg6 : FVec F S256x8x128 .f32) : IVec S_ 1 :=
  let main_v0 : FVec F S16x4096x8x128 .f32 := Host.absf main_arg0
  let main_cst : FVec F S_ .f32 := constant S_ .f32 0x7F800000#32
  let main_v1 : FVec F S16x4096x8x128 .f32 := broadcastInDim S16x4096x8x128 ![] bcast_S_S16x4096x8x128 main_cst
  let main_v2 : IVec S16x4096x8x128 1 := cmpf .olt main_v0 main_v1
  let main_c : IVec S_ 1 := constantI S_ 1 1#1
  let main_v3 : IVec S_ 1 := (fun x v => Host.reduce IntOp.andi x v reducesTo_S16x4096x8x128_S_d0_1_2_3 h_S_) main_v2 main_c
  let main_v4 : FVec F S16x4096x8x64 .f32 := Host.absf main_arg1
  let main_cst_0 : FVec F S_ .f32 := constant S_ .f32 0x7F800000#32
  let main_v5 : FVec F S16x4096x8x64 .f32 := broadcastInDim S16x4096x8x64 ![] bcast_S_S16x4096x8x64 main_cst_0
  let main_v6 : IVec S16x4096x8x64 1 := cmpf .olt main_v4 main_v5
  let main_c_1 : IVec S_ 1 := constantI S_ 1 1#1
  let main_v7 : IVec S_ 1 := (fun x v => Host.reduce IntOp.andi x v reducesTo_S16x4096x8x64_S_d0_1_2_3 h_S_) main_v6 main_c_1
  let main_v8 : IVec S_ 1 := andi main_v3 main_v7
  let main_v9 : FVec F S16x4096x256 .f32 := Host.absf main_arg2
  let main_cst_2 : FVec F S_ .f32 := constant S_ .f32 0x7F800000#32
  let main_v10 : FVec F S16x4096x256 .f32 := broadcastInDim S16x4096x256 ![] bcast_S_S16x4096x256 main_cst_2
  let main_v11 : IVec S16x4096x256 1 := cmpf .olt main_v9 main_v10
  let main_c_3 : IVec S_ 1 := constantI S_ 1 1#1
  let main_v12 : IVec S_ 1 := (fun x v => Host.reduce IntOp.andi x v reducesTo_S16x4096x256_S_d0_1_2 h_S_) main_v11 main_c_3
  let main_v13 : IVec S_ 1 := andi main_v8 main_v12
  let main_v14 : FVec F S16x4096x64 .f32 := Host.absf main_arg3
  let main_cst_4 : FVec F S_ .f32 := constant S_ .f32 0x7F800000#32
  let main_v15 : FVec F S16x4096x64 .f32 := broadcastInDim S16x4096x64 ![] bcast_S_S16x4096x64 main_cst_4
  let main_v16 : IVec S16x4096x64 1 := cmpf .olt main_v14 main_v15
  fn_part1 (F := F) main_arg5 main_arg6 main_v13 main_v16
-- ==== Kernel.lean ====
abbrev S16x4096x8x128 : Shape := ⟨4, ![16, 4096, 8, 128]⟩
abbrev S16x4096x8x64 : Shape := ⟨4, ![16, 4096, 8, 64]⟩
abbrev S16x4096x256 : Shape := ⟨3, ![16, 4096, 256]⟩
abbrev S16x4096x64 : Shape := ⟨3, ![16, 4096, 64]⟩
abbrev S16x4096x1024 : Shape := ⟨3, ![16, 4096, 1024]⟩
abbrev S256x8x128 : Shape := ⟨3, ![256, 8, 128]⟩
abbrev S8x128x16x4096 : Shape := ⟨4, ![8, 128, 16, 4096]⟩
abbrev S16x8x4096x128 : Shape := ⟨4, ![16, 8, 4096, 128]⟩
abbrev S16x8x128x4096 : Shape := ⟨4, ![16, 8, 128, 4096]⟩
abbrev S16x8x128x16x256 : Shape := ⟨5, ![16, 8, 128, 16, 256]⟩
abbrev S16x8x16x128x256 : Shape := ⟨5, ![16, 8, 16, 128, 256]⟩
abbrev S16x4096x128 : Shape := ⟨3, ![16, 4096, 128]⟩
abbrev S16x1x4096x128 : Shape := ⟨4, ![16, 1, 4096, 128]⟩
abbrev S16x8x4096x256 : Shape := ⟨4, ![16, 8, 4096, 256]⟩
abbrev S_ : Shape := ⟨0, ![]⟩
abbrev S16x4096x4x128 : Shape := ⟨4, ![16, 4096, 4, 128]⟩
abbrev S1x1x1x128 : Shape := ⟨4, ![1, 1, 1, 128]⟩
abbrev S16x4096x4x1x128 : Shape := ⟨5, ![16, 4096, 4, 1, 128]⟩
abbrev S16x4096x4x2x128 : Shape := ⟨5, ![16, 4096, 4, 2, 128]⟩
abbrev S16x4096x8x256 : Shape := ⟨4, ![16, 4096, 8, 256]⟩
abbrev S512x512 : Shape := ⟨2, ![512, 512]⟩
abbrev S1x4x512x256 : Shape := ⟨4, ![1, 4, 512, 256]⟩
abbrev S1x4x4096x256 : Shape := ⟨4, ![1, 4, 4096, 256]⟩
abbrev S1x4x16x128x256 : Shape := ⟨5, ![1, 4, 16, 128, 256]⟩
abbrev S1x512x512 : Shape := ⟨3, ![1, 512, 512]⟩
abbrev S4x1x512 : Shape := ⟨3, ![4, 1, 512]⟩
abbrev S4x128x512 : Shape := ⟨3, ![4, 128, 512]⟩
abbrev S4x512x512 : Shape := ⟨3, ![4, 512, 512]⟩
abbrev S1x1x512x256 : Shape := ⟨4, ![1, 1, 512, 256]⟩
abbrev S512x256 : Shape := ⟨2, ![512, 256]⟩
abbrev S1x1x512 : Shape := ⟨3, ![1, 1, 512]⟩
abbrev S1x512 : Shape := ⟨2, ![1, 512]⟩
abbrev S512 : Shape := ⟨1, ![512]⟩
abbrev S1x1x1x128x256 : Shape := ⟨5, ![1, 1, 1, 128, 256]⟩
abbrev S128x256 : Shape := ⟨2, ![128, 256]⟩
abbrev S128x512 : Shape := ⟨2, ![128, 512]⟩
abbrev S1x128x512 : Shape := ⟨3, ![1, 128, 512]⟩
abbrev S512x128 : Shape := ⟨2, ![512, 128]⟩
abbrev S1x512x128 : Shape := ⟨3, ![1, 512, 128]⟩

abbrev nBuf : Space → Nat
  | .hbm => 114
  | .vmem => 15
  | .smem => 0
  | _ => 0

abbrev bufTy : (tb : Table) → Fin (tcTables nBuf tb) → BufTy
  | .hbm, ⟨0, _⟩ => ⟨S16x4096x8x128, .f32⟩
  | .hbm, ⟨1, _⟩ => ⟨S16x4096x8x64, .f32⟩
  | .hbm, ⟨2, _⟩ => ⟨S16x4096x256, .f32⟩
  | .hbm, ⟨3, _⟩ => ⟨S16x4096x64, .f32⟩
  | .hbm, ⟨4, _⟩ => ⟨S16x4096x1024, .f32⟩
  | .hbm, ⟨5, _⟩ => ⟨S256x8x128, .f32⟩
  | .hbm, ⟨6, _⟩ => ⟨S256x8x128, .f32⟩
  | .hbm, ⟨7, _⟩ => ⟨S16x4096x256, .bf16⟩
  | .hbm, ⟨8, _⟩ => ⟨S256x8x128, .bf16⟩
  | .hbm, ⟨9, _⟩ => ⟨S8x128x16x4096, .f32⟩
  | .hbm, ⟨10, _⟩ => ⟨S16x8x4096x128, .f32⟩
  | .hbm, ⟨11, _⟩ => ⟨S256x8x128, .bf16⟩
  | .hbm, ⟨12, _⟩ => ⟨S8x128x16x4096, .f32⟩
  | .hbm, ⟨13, _⟩ => ⟨S16x8x128x4096, .f32⟩
  | .hbm, ⟨14, _⟩ => ⟨S16x8x128x16x256, .f32⟩
  | .hbm, ⟨15, _⟩ => ⟨S16x8x16x128x256, .f32⟩
  | .hbm, ⟨16, _⟩ => ⟨S16x4096x128, .f32⟩
  | .hbm, ⟨17, _⟩ => ⟨S16x1x4096x128, .f32⟩
  | .hbm, ⟨18, _⟩ => ⟨S16x8x4096x128, .f32⟩
  | .hbm, ⟨19, _⟩ => ⟨S16x8x4096x256, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16x4096x8x64, .f32⟩
  | .hbm, ⟨28, _⟩ => ⟨S16x4096x8x64, .f32⟩
  | .hbm, ⟨29, _⟩ => ⟨S16x4096x4x128, .f32⟩
  | .hbm, ⟨30, _⟩ => ⟨S1x1x1x128, .i32⟩
  | .hbm, ⟨31, _⟩ => ⟨S_, .i32⟩
  | .hbm, ⟨32, _⟩ => ⟨S1x1x1x128, .i32⟩
  | .hbm, ⟨33, _⟩ => ⟨S1x1x1x128, .i1⟩
  | .hbm, ⟨34, _⟩ => ⟨S_, .f32⟩
  | .hbm, ⟨35, _⟩ => ⟨S_, .f32⟩
  | .hbm, ⟨36, _⟩ => ⟨S16x4096x4x128, .i1⟩
  | .hbm, ⟨37, _⟩ => ⟨S16x4096x4x128, .f32⟩
  | .hbm, ⟨38, _⟩ => ⟨S16x4096x4x128, .f32⟩
  | .hbm, ⟨39, _⟩ => ⟨S_, .i32⟩
  | .hbm, ⟨40, _⟩ => ⟨S1x1x1x128, .i32⟩
  | .hbm, ⟨41, _⟩ => ⟨S1x1x1x128, .i1⟩
  | .hbm, ⟨42, _⟩ => ⟨S_, .f32⟩
  | .hbm, ⟨43, _⟩ => ⟨S_, .f32⟩
  | .hbm, ⟨44, _⟩ => ⟨S16x4096x4x128, .i1⟩
  | .hbm, ⟨45, _⟩ => ⟨S16x4096x4x128, .f32⟩
  | .hbm, ⟨46, _⟩ => ⟨S16x4096x4x128, .f32⟩
  | .hbm, ⟨47, _⟩ => ⟨S16x4096x4x1x128, .f32⟩
  | .hbm, ⟨48, _⟩ => ⟨S16x4096x4x1x128, .f32⟩
  | .hbm, ⟨49, _⟩ => ⟨S16x4096x4x2x128, .f32⟩
  | .hbm, ⟨50, _⟩ => ⟨S16x4096x8x128, .f32⟩
  | .hbm, ⟨51, _⟩ => ⟨S16x4096x8x128, .f32⟩
  | .hbm, ⟨52, _⟩ => ⟨S16x4096x8x128, .f32⟩
  | .hbm, ⟨53, _⟩ => ⟨S16x4096x8x256, .f32⟩
  | .hbm, ⟨54, _⟩ => ⟨S16x8x4096x256, .f32⟩
  | .hbm, ⟨55, _⟩ => ⟨S16x8x4096x256, .bf16⟩
  | .hbm, ⟨56, _⟩ => ⟨S16x8x4096x256, .bf16⟩
  | .hbm, ⟨57, _⟩ => ⟨S16x8x16x128x256, .bf16⟩
  | .hbm, ⟨58, _⟩ => ⟨S16x4096x1024, .f32⟩
  | .hbm, ⟨59, _⟩ => ⟨S16x4096x1024, .f32⟩
  | .hbm, ⟨60, _⟩ => ⟨S_, .f32⟩
  | .hbm, ⟨61, _⟩ => ⟨S16x4096x1024, .f32⟩
  | .hbm, ⟨62, _⟩ => ⟨S16x4096x1024, .f32⟩
  | .hbm, ⟨63, _⟩ => ⟨S_, .f32⟩
  | .hbm, ⟨64, _⟩ => ⟨S16x4096x1024, .f32⟩
  | .hbm, ⟨65, _⟩ => ⟨S16x4096x1024, .f32⟩
  | .hbm, ⟨66, _⟩ => ⟨S16x4096x1024, .f32⟩
  | .hbm, ⟨67, _⟩ => ⟨S16x4096x1024, .bf16⟩
  | .hbm, ⟨68, _⟩ => ⟨S512x512, .i32⟩
  | .hbm, ⟨69, _⟩ => ⟨S512x512, .i32⟩
  | .hbm, ⟨70, _⟩ => ⟨S_, .i32⟩
  | .hbm, ⟨71, _⟩ => ⟨S_, .i32⟩
  | .hbm, ⟨72, _⟩ => ⟨S512x512, .i32⟩
  | .hbm, ⟨73, _⟩ => ⟨S512x512, .i32⟩
  | .hbm, ⟨74, _⟩ => ⟨S512x512, .i32⟩
  | .hbm, ⟨75, _⟩ => ⟨S_, .i32⟩
  | .hbm, ⟨76, _⟩ => ⟨S512x512, .i32⟩
  | .hbm, ⟨77, _⟩ => ⟨S512x512, .i1⟩
  | .hbm, ⟨78, _⟩ => ⟨S512x512, .i32⟩
  | .hbm, ⟨79, _⟩ => ⟨S512x512, .i32⟩
  | .hbm, ⟨80, _⟩ => ⟨S_, .i32⟩
  | .hbm, ⟨81, _⟩ => ⟨S512x512, .i32⟩
  | .hbm, ⟨82, _⟩ => ⟨S512x512, .i1⟩
  | .hbm, ⟨83, _⟩ => ⟨S512x512, .i1⟩
  | .hbm, ⟨84, _⟩ => ⟨S_, .i32⟩
  | .hbm, ⟨85, _⟩ => ⟨S512x512, .i32⟩
  | .hbm, ⟨86, _⟩ => ⟨S512x512, .i32⟩
  | .hbm, ⟨87, _⟩ => ⟨S512x512, .i32⟩
  | .hbm, ⟨88, _⟩ => ⟨S_, .i32⟩
  | .hbm, ⟨89, _⟩ => ⟨S_, .i32⟩
  | .hbm, ⟨90, _⟩ => ⟨S512x512, .i32⟩
  | .hbm, ⟨91, _⟩ => ⟨S512x512, .i32⟩
  | .hbm, ⟨92, _⟩ => ⟨S512x512, .i32⟩
  | .hbm, ⟨93, _⟩ => ⟨S_, .i32⟩
  | .hbm, ⟨94, _⟩ => ⟨S512x512, .i32⟩
  | .hbm, ⟨95, _⟩ => ⟨S512x512, .i1⟩
  | .hbm, ⟨96, _⟩ => ⟨S512x512, .i32⟩
  | .hbm, ⟨97, _⟩ => ⟨S512x512, .i32⟩
  | .hbm, ⟨98, _⟩ => ⟨S_, .i32⟩
  | .hbm, ⟨99, _⟩ => ⟨S512x512, .i32⟩
  | .hbm, ⟨100, _⟩ => ⟨S512x512, .i1⟩
  | .hbm, ⟨101, _⟩ => ⟨S512x512, .i1⟩
  | .hbm, ⟨102, _⟩ => ⟨S_, .i32⟩
  | .hbm, ⟨103, _⟩ => ⟨S512x512, .i32⟩
  | .hbm, ⟨104, _⟩ => ⟨S512x512, .i32⟩
  | .hbm, ⟨105, _⟩ => ⟨S512x512, .i32⟩
  | .hbm, ⟨106, _⟩ => ⟨S512x512, .i1⟩
  | .hbm, ⟨107, _⟩ => ⟨S_, .f32⟩
  | .hbm, ⟨108, _⟩ => ⟨S_, .f32⟩
  | .hbm, ⟨109, _⟩ => ⟨S512x512, .f32⟩
  | .hbm, ⟨110, _⟩ => ⟨S512x512, .f32⟩
  | .hbm, ⟨111, _⟩ => ⟨S512x512, .f32⟩
  | .hbm, ⟨112, _⟩ => ⟨S512x512, .f32⟩
  | .hbm, ⟨113, _⟩ => ⟨S16x4096x1024, .bf16⟩
  | .local _ .vmem, ⟨0, _⟩ => ⟨S1x4x512x256, .bf16⟩
  | .local _ .vmem, ⟨1, _⟩ => ⟨S1x4x512x256, .bf16⟩
  | .local _ .vmem, ⟨2, _⟩ => ⟨S1x4x4096x256, .bf16⟩
  | .local _ .vmem, ⟨3, _⟩ => ⟨S1x4x4096x256, .bf16⟩
  | .local _ .vmem, ⟨4, _⟩ => ⟨S1x4x16x128x256, .bf16⟩
  | .local _ .vmem, ⟨5, _⟩ => ⟨S1x4x16x128x256, .bf16⟩
  | .local _ .vmem, ⟨6, _⟩ => ⟨S1x512x512, .bf16⟩
  | .local _ .vmem, ⟨7, _⟩ => ⟨S1x512x512, .bf16⟩
  | .local _ .vmem, ⟨8, _⟩ => ⟨S512x512, .f32⟩
  | .local _ .vmem, ⟨9, _⟩ => ⟨S1x512x512, .bf16⟩
  | .local _ .vmem, ⟨10, _⟩ => ⟨S1x512x512, .bf16⟩
  | .local _ .vmem, ⟨11, _⟩ => ⟨S4x1x512, .f32⟩
  | .local _ .vmem, ⟨12, _⟩ => ⟨S4x1x512, .f32⟩
  | .local _ .vmem, ⟨13, _⟩ => ⟨S4x128x512, .f32⟩
  | .local _ .vmem, ⟨14, _⟩ => ⟨S4x512x512, .f32⟩
  | _, _ => ⟨S16x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_7 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_c : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_0 : Ref sig .tc := ⟨.hbm, 84, rfl⟩
abbrev main_call2_v12 : Ref sig .tc := ⟨.hbm, 85, rfl⟩
abbrev main_call2_v13 : Ref sig .tc := ⟨.hbm, 86, rfl⟩
abbrev main_v48 : Ref sig .tc := ⟨.hbm, 87, rfl⟩
abbrev main_c_8 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_c : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_0 : Ref sig .tc := ⟨.hbm, 102, rfl⟩
abbrev main_call3_v12 : Ref sig .tc := ⟨.hbm, 103, rfl⟩
abbrev main_call3_v13 : Ref sig .tc := ⟨.hbm, 104, rfl⟩
abbrev main_v49 : Ref sig .tc := ⟨.hbm, 105, rfl⟩
abbrev main_v50 : Ref sig .tc := ⟨.hbm, 106, rfl⟩
abbrev main_cst_9 : Ref sig .tc := ⟨.hbm, 107, rfl⟩
abbrev main_cst_10 : Ref sig .tc := ⟨.hbm, 108, rfl⟩
abbrev main_call4_v0 : Ref sig .tc := ⟨.hbm, 109, rfl⟩
abbrev main_call4_v1 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 2, 8], ![false, false, false]⟩

def k0_mult1 : BitVec 32 :=
  let c0_i32 : BitVec 32 := 0#32
  c0_i32
@[reducible] def k0_t1_loop (i : grid0.Coords) : Scf.Loop 32 :=
  let c0_i32_23 : BitVec 32 := 0#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let v24 : BitVec 32 := Scalar.subi v23 c0_i32_23
  let c1_i32_24 : BitVec 32 := 1#32
  let v26 : BitVec 32 := Scalar.divsi v24 c1_i32_24
  let v27 : BitVec 32 := Scalar.muli v26 c1_i32_24
  let v28 : BitVec 32 := Scalar.addi c0_i32_23 v27
  let c1_i32_25 : BitVec 32 := 1#32
  ⟨c0_i32_23, v28, c1_i32_25⟩
def k0_mult2 (i : grid0.Coords) (k0_t1 : Fin (k0_t1_loop i).trips) : BitVec 32 :=
  let c0_i32_23 : BitVec 32 := 0#32
  let c1_i32_25 : BitVec 32 := 1#32
  let arg13 : BitVec 32 := Scf.iv c0_i32_23 c1_i32_25 k0_t1
  let c512_i32_250 : BitVec 32 := 512#32
  let v320 : BitVec 32 := Scalar.muli arg13 c512_i32_250
  v320
def k0_off1 (i : grid0.Coords) (k0_t1 : Fin (k0_t1_loop i).trips) : Fin 4 → Nat :=
  let c0_251 : Index := 0#32
  let c1_252 : Index := 1#32
  let c0_i32_23 : BitVec 32 := 0#32
  let c1_i32_25 : BitVec 32 := 1#32
  let arg13 : BitVec 32 := Scf.iv c0_i32_23 c1_i32_25 k0_t1
  let c512_i32_250 : BitVec 32 := 512#32
  let v320 : BitVec 32 := Scalar.muli arg13 c512_i32_250
  let v321 : BitVec 32 := v320
  let v322 : Index := Scalar.indexCast v321
  let c0_253 : Index := 0#32
  ![0, 1, v322.toNat, 0]
def k0_off2 (i : grid0.Coords) (k0_t1 : Fin (k0_t1_loop i).trips) (c0_i32_280 : BitVec 32) : Fin 5 → Nat :=
  let c0_281 : Index := 0#32
  let c0_282 : Index := 0#32
  let c0_i32_23 : BitVec 32 := 0#32
  let c1_i32_25 : BitVec 32 := 1#32
  let arg13 : BitVec 32 := Scf.iv c0_i32_23 c1_i32_25 k0_t1
  let c2_i32_279 : BitVec 32 := 2#32
  let v355 : BitVec 32 := Scalar.muli arg13 c2_i32_279
  let v356 : BitVec 32 := Scalar.addi v355 c0_i32_280
  let v357 : Index := Scalar.indexCast v356
  let c0_283 : Index := 0#32
  let c0_284 : Index := 0#32
  ![0, 0, v357.toNat, 0, 0]
def k0_mult3 (i : grid0.Coords) (k0_t1 : Fin (k0_t1_loop i).trips) : BitVec 32 :=
  let c0_i32_23 : BitVec 32 := 0#32
  let c1_i32_25 : BitVec 32 := 1#32
  let arg13 : BitVec 32 := Scf.iv c0_i32_23 c1_i32_25 k0_t1
  let c512_i32_298 : BitVec 32 := 512#32
  let v376 : BitVec 32 := Scalar.muli arg13 c512_i32_298
  v376
def k0_off3 (i : grid0.Coords) (k0_t1 : Fin (k0_t1_loop i).trips) : Fin 4 → Nat :=
  let c0_299 : Index := 0#32
  let c2_300 : Index := 2#32
  let c0_i32_23 : BitVec 32 := 0#32
  let c1_i32_25 : BitVec 32 := 1#32
  let arg13 : BitVec 32 := Scf.iv c0_i32_23 c1_i32_25 k0_t1
  let c512_i32_298 : BitVec 32 := 512#32
  let v376 : BitVec 32 := Scalar.muli arg13 c512_i32_298
  let v377 : BitVec 32 := v376
  let v378 : Index := Scalar.indexCast v377
  let c0_301 : Index := 0#32
  ![0, 2, v378.toNat, 0]
def k0_off4 (i : grid0.Coords) (k0_t1 : Fin (k0_t1_loop i).trips) (c0_i32_328 : BitVec 32) : Fin 5 → Nat :=
  let c0_329 : Index := 0#32
  let c1_330 : Index := 1#32
  let c0_i32_23 : BitVec 32 := 0#32
  let c1_i32_25 : BitVec 32 := 1#32
  let arg13 : BitVec 32 := Scf.iv c0_i32_23 c1_i32_25 k0_t1
  let c2_i32_327 : BitVec 32 := 2#32
  let v411 : BitVec 32 := Scalar.muli arg13 c2_i32_327
  let v412 : BitVec 32 := Scalar.addi v411 c0_i32_328
  let v413 : Index := Scalar.indexCast v412
  let c0_331 : Index := 0#32
  let c0_332 : Index := 0#32
  ![0, 1, v413.toNat, 0, 0]
def k0_mult4 (i : grid0.Coords) (k0_t1 : Fin (k0_t1_loop i).trips) : BitVec 32 :=
  let c0_i32_23 : BitVec 32 := 0#32
  let c1_i32_25 : BitVec 32 := 1#32
  let arg13 : BitVec 32 := Scf.iv c0_i32_23 c1_i32_25 k0_t1
  let c512_i32_346 : BitVec 32 := 512#32
  let v432 : BitVec 32 := Scalar.muli arg13 c512_i32_346
  v432
def k0_off5 (i : grid0.Coords) (k0_t1 : Fin (k0_t1_loop i).trips) : Fin 4 → Nat :=
  let c0_347 : Index := 0#32
  let c3_348 : Index := 3#32
  let c0_i32_23 : BitVec 32 := 0#32
  let c1_i32_25 : BitVec 32 := 1#32
  let arg13 : BitVec 32 := Scf.iv c0_i32_23 c1_i32_25 k0_t1
  let c512_i32_346 : BitVec 32 := 512#32
  let v432 : BitVec 32 := Scalar.muli arg13 c512_i32_346
  let v433 : BitVec 32 := v432
  let v434 : Index := Scalar.indexCast v433
  let c0_349 : Index := 0#32
  ![0, 3, v434.toNat, 0]
def k0_off6 (i : grid0.Coords) (k0_t1 : Fin (k0_t1_loop i).trips) (c0_i32_376 : BitVec 32) : Fin 5 → Nat :=
  let c0_377 : Index := 0#32
  let c2_378 : Index := 2#32
  let c0_i32_23 : BitVec 32 := 0#32
  let c1_i32_25 : BitVec 32 := 1#32
  let arg13 : BitVec 32 := Scf.iv c0_i32_23 c1_i32_25 k0_t1
  let c2_i32_375 : BitVec 32 := 2#32
  let v467 : BitVec 32 := Scalar.muli arg13 c2_i32_375
  let v468 : BitVec 32 := Scalar.addi v467 c0_i32_376
  let v469 : Index := Scalar.indexCast v468
  let c0_379 : Index := 0#32
  let c0_380 : Index := 0#32
  ![0, 2, v469.toNat, 0, 0]
def k0_mult5 (i : grid0.Coords) (k0_t1 : Fin (k0_t1_loop i).trips) : BitVec 32 :=
  let c0_i32_23 : BitVec 32 := 0#32
  let c1_i32_25 : BitVec 32 := 1#32
  let arg13 : BitVec 32 := Scf.iv c0_i32_23 c1_i32_25 k0_t1
  let c1_i32_394 : BitVec 32 := 1#32
  let v488 : BitVec 32 := Scalar.addi arg13 c1_i32_394
  let c512_i32_395 : BitVec 32 := 512#32
  let v489 : BitVec 32 := Scalar.muli v488 c512_i32_395
  v489
def k0_off7 (i : grid0.Coords) (k0_t1 : Fin (k0_t1_loop i).trips) : Fin 4 → Nat :=
  let c0_396 : Index := 0#32
  let c0_397 : Index := 0#32
  let c0_i32_23 : BitVec 32 := 0#32
  let c1_i32_25 : BitVec 32 := 1#32
  let arg13 : BitVec 32 := Scf.iv c0_i32_23 c1_i32_25 k0_t1
  let c1_i32_394 : BitVec 32 := 1#32
  let v488 : BitVec 32 := Scalar.addi arg13 c1_i32_394
  let c512_i32_395 : BitVec 32 := 512#32
  let v489 : BitVec 32 := Scalar.muli v488 c512_i32_395
  let v490 : BitVec 32 := v489
  let v491 : Index := Scalar.indexCast v490
  let c0_398 : Index := 0#32
  ![0, 0, v491.toNat, 0]
def k0_off8 (i : grid0.Coords) (k0_t1 : Fin (k0_t1_loop i).trips) (c0_i32_425 : BitVec 32) : Fin 5 → Nat :=
  let c0_426 : Index := 0#32
  let c3_427 : Index := 3#32
  let c0_i32_23 : BitVec 32 := 0#32
  let c1_i32_25 : BitVec 32 := 1#32
  let arg13 : BitVec 32 := Scf.iv c0_i32_23 c1_i32_25 k0_t1
  let c2_i32_424 : BitVec 32 := 2#32
  let v524 : BitVec 32 := Scalar.muli arg13 c2_i32_424
  let v525 : BitVec 32 := Scalar.addi v524 c0_i32_425
  let v526 : Index := Scalar.indexCast v525
  let c0_428 : Index := 0#32
  let c0_429 : Index := 0#32
  ![0, 3, v526.toNat, 0, 0]
@[reducible] def k0_t2_loop (i : grid0.Coords) : Scf.Loop 32 :=
  let c0_i32_23 : BitVec 32 := 0#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let v24 : BitVec 32 := Scalar.subi v23 c0_i32_23
  let c1_i32_24 : BitVec 32 := 1#32
  let v26 : BitVec 32 := Scalar.divsi v24 c1_i32_24
  let v27 : BitVec 32 := Scalar.muli v26 c1_i32_24
  let v28 : BitVec 32 := Scalar.addi c0_i32_23 v27
  let v25 : BitVec 32 := Scalar.addi c0_i32_23 v24
  let c1_i32_26 : BitVec 32 := 1#32
  ⟨v28, v25, c1_i32_26⟩
def k0_mult6 (i : grid0.Coords) (k0_t2 : Fin (k0_t2_loop i).trips) : BitVec 32 :=
  let c0_i32_23 : BitVec 32 := 0#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let v24 : BitVec 32 := Scalar.subi v23 c0_i32_23
  let c1_i32_24 : BitVec 32 := 1#32
  let v26 : BitVec 32 := Scalar.divsi v24 c1_i32_24
  let v27 : BitVec 32 := Scalar.muli v26 c1_i32_24
  let v28 : BitVec 32 := Scalar.addi c0_i32_23 v27
  let c1_i32_26 : BitVec 32 := 1#32
  let arg13 : BitVec 32 := Scf.iv v28 c1_i32_26 k0_t2
  let c512_i32_250 : BitVec 32 := 512#32
  let v320 : BitVec 32 := Scalar.muli arg13 c512_i32_250
  v320
def k0_off9 (i : grid0.Coords) (k0_t2 : Fin (k0_t2_loop i).trips) : Fin 4 → Nat :=
  let c0_251 : Index := 0#32
  let c1_252 : Index := 1#32
  let c0_i32_23 : BitVec 32 := 0#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let v24 : BitVec 32 := Scalar.subi v23 c0_i32_23
  let c1_i32_24 : BitVec 32 := 1#32
  let v26 : BitVec 32 := Scalar.divsi v24 c1_i32_24
  let v27 : BitVec 32 := Scalar.muli v26 c1_i32_24
  let v28 : BitVec 32 := Scalar.addi c0_i32_23 v27
  let c1_i32_26 : BitVec 32 := 1#32
  let arg13 : BitVec 32 := Scf.iv v28 c1_i32_26 k0_t2
  let c512_i32_250 : BitVec 32 := 512#32
  let v320 : BitVec 32 := Scalar.muli arg13 c512_i32_250
  let v321 : BitVec 32 := v320
  let v322 : Index := Scalar.indexCast v321
  let c0_253 : Index := 0#32
  ![0, 1, v322.toNat, 0]
def k0_off10 (i : grid0.Coords) (k0_t2 : Fin (k0_t2_loop i).trips) (c0_i32_280 : BitVec 32) : Fin 5 → Nat :=
  let c0_281 : Index := 0#32
  let c0_282 : Index := 0#32
  let c0_i32_23 : BitVec 32 := 0#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let v24 : BitVec 32 := Scalar.subi v23 c0_i32_23
  let c1_i32_24 : BitVec 32 := 1#32
  let v26 : BitVec 32 := Scalar.divsi v24 c1_i32_24
  let v27 : BitVec 32 := Scalar.muli v26 c1_i32_24
  let v28 : BitVec 32 := Scalar.addi c0_i32_23 v27
  let c1_i32_26 : BitVec 32 := 1#32
  let arg13 : BitVec 32 := Scf.iv v28 c1_i32_26 k0_t2
  let c2_i32_279 : BitVec 32 := 2#32
  let v355 : BitVec 32 := Scalar.muli arg13 c2_i32_279
  let v356 : BitVec 32 := Scalar.addi v355 c0_i32_280
  let v357 : Index := Scalar.indexCast v356
  let c0_283 : Index := 0#32
  let c0_284 : Index := 0#32
  ![0, 0, v357.toNat, 0, 0]
def k0_mult7 (i : grid0.Coords) (k0_t2 : Fin (k0_t2_loop i).trips) : BitVec 32 :=
  let c0_i32_23 : BitVec 32 := 0#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let v24 : BitVec 32 := Scalar.subi v23 c0_i32_23
  let c1_i32_24 : BitVec 32 := 1#32
  let v26 : BitVec 32 := Scalar.divsi v24 c1_i32_24
  let v27 : BitVec 32 := Scalar.muli v26 c1_i32_24
  let v28 : BitVec 32 := Scalar.addi c0_i32_23 v27
  let c1_i32_26 : BitVec 32 := 1#32
  let arg13 : BitVec 32 := Scf.iv v28 c1_i32_26 k0_t2
  let c512_i32_298 : BitVec 32 := 512#32
  let v376 : BitVec 32 := Scalar.muli arg13 c512_i32_298
  v376
def k0_off11 (i : grid0.Coords) (k0_t2 : Fin (k0_t2_loop i).trips) : Fin 4 → Nat :=
  let c0_299 : Index := 0#32
  let c2_300 : Index := 2#32
  let c0_i32_23 : BitVec 32 := 0#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let v24 : BitVec 32 := Scalar.subi v23 c0_i32_23
  let c1_i32_24 : BitVec 32 := 1#32
  let v26 : BitVec 32 := Scalar.divsi v24 c1_i32_24
  let v27 : BitVec 32 := Scalar.muli v26 c1_i32_24
  let v28 : BitVec 32 := Scalar.addi c0_i32_23 v27
  let c1_i32_26 : BitVec 32 := 1#32
  let arg13 : BitVec 32 := Scf.iv v28 c1_i32_26 k0_t2
  let c512_i32_298 : BitVec 32 := 512#32
  let v376 : BitVec 32 := Scalar.muli arg13 c512_i32_298
  let v377 : BitVec 32 := v376
  let v378 : Index := Scalar.indexCast v377
  let c0_301 : Index := 0#32
  ![0, 2, v378.toNat, 0]
def k0_off12 (i : grid0.Coords) (k0_t2 : Fin (k0_t2_loop i).trips) (c0_i32_328 : BitVec 32) : Fin 5 → Nat :=
  let c0_329 : Index := 0#32
  let c1_330 : Index := 1#32
  let c0_i32_23 : BitVec 32 := 0#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let v24 : BitVec 32 := Scalar.subi v23 c0_i32_23
  let c1_i32_24 : BitVec 32 := 1#32
  let v26 : BitVec 32 := Scalar.divsi v24 c1_i32_24
  let v27 : BitVec 32 := Scalar.muli v26 c1_i32_24
  let v28 : BitVec 32 := Scalar.addi c0_i32_23 v27
  let c1_i32_26 : BitVec 32 := 1#32
  let arg13 : BitVec 32 := Scf.iv v28 c1_i32_26 k0_t2
  let c2_i32_327 : BitVec 32 := 2#32
  let v411 : BitVec 32 := Scalar.muli arg13 c2_i32_327
  let v412 : BitVec 32 := Scalar.addi v411 c0_i32_328
  let v413 : Index := Scalar.indexCast v412
  let c0_331 : Index := 0#32
  let c0_332 : Index := 0#32
  ![0, 1, v413.toNat, 0, 0]
def k0_mult8 (i : grid0.Coords) (k0_t2 : Fin (k0_t2_loop i).trips) : BitVec 32 :=
  let c0_i32_23 : BitVec 32 := 0#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let v24 : BitVec 32 := Scalar.subi v23 c0_i32_23
  let c1_i32_24 : BitVec 32 := 1#32
  let v26 : BitVec 32 := Scalar.divsi v24 c1_i32_24
  let v27 : BitVec 32 := Scalar.muli v26 c1_i32_24
  let v28 : BitVec 32 := Scalar.addi c0_i32_23 v27
  let c1_i32_26 : BitVec 32 := 1#32
  let arg13 : BitVec 32 := Scf.iv v28 c1_i32_26 k0_t2
  let c512_i32_346 : BitVec 32 := 512#32
  let v432 : BitVec 32 := Scalar.muli arg13 c512_i32_346
  v432
def k0_off13 (i : grid0.Coords) (k0_t2 : Fin (k0_t2_loop i).trips) : Fin 4 → Nat :=
  let c0_347 : Index := 0#32
  let c3_348 : Index := 3#32
  let c0_i32_23 : BitVec 32 := 0#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let v24 : BitVec 32 := Scalar.subi v23 c0_i32_23
  let c1_i32_24 : BitVec 32 := 1#32
  let v26 : BitVec 32 := Scalar.divsi v24 c1_i32_24
  let v27 : BitVec 32 := Scalar.muli v26 c1_i32_24
  let v28 : BitVec 32 := Scalar.addi c0_i32_23 v27
  let c1_i32_26 : BitVec 32 := 1#32
  let arg13 : BitVec 32 := Scf.iv v28 c1_i32_26 k0_t2
  let c512_i32_346 : BitVec 32 := 512#32
  let v432 : BitVec 32 := Scalar.muli arg13 c512_i32_346
  let v433 : BitVec 32 := v432
  let v434 : Index := Scalar.indexCast v433
  let c0_349 : Index := 0#32
  ![0, 3, v434.toNat, 0]
def k0_off14 (i : grid0.Coords) (k0_t2 : Fin (k0_t2_loop i).trips) (c0_i32_376 : BitVec 32) : Fin 5 → Nat :=
  let c0_377 : Index := 0#32
  let c2_378 : Index := 2#32
  let c0_i32_23 : BitVec 32 := 0#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let v24 : BitVec 32 := Scalar.subi v23 c0_i32_23
  let c1_i32_24 : BitVec 32 := 1#32
  let v26 : BitVec 32 := Scalar.divsi v24 c1_i32_24
  let v27 : BitVec 32 := Scalar.muli v26 c1_i32_24
  let v28 : BitVec 32 := Scalar.addi c0_i32_23 v27
  let c1_i32_26 : BitVec 32 := 1#32
  let arg13 : BitVec 32 := Scf.iv v28 c1_i32_26 k0_t2
  let c2_i32_375 : BitVec 32 := 2#32
  let v467 : BitVec 32 := Scalar.muli arg13 c2_i32_375
  let v468 : BitVec 32 := Scalar.addi v467 c0_i32_376
  let v469 : Index := Scalar.indexCast v468
  let c0_379 : Index := 0#32
  let c0_380 : Index := 0#32
  ![0, 2, v469.toNat, 0, 0]
def k0_mult9 (i : grid0.Coords) (k0_t2 : Fin (k0_t2_loop i).trips) : BitVec 32 :=
  let c0_i32_23 : BitVec 32 := 0#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let v24 : BitVec 32 := Scalar.subi v23 c0_i32_23
  let c1_i32_24 : BitVec 32 := 1#32
  let v26 : BitVec 32 := Scalar.divsi v24 c1_i32_24
  let v27 : BitVec 32 := Scalar.muli v26 c1_i32_24
  let v28 : BitVec 32 := Scalar.addi c0_i32_23 v27
  let c1_i32_26 : BitVec 32 := 1#32
  let arg13 : BitVec 32 := Scf.iv v28 c1_i32_26 k0_t2
  let c1_i32_394 : BitVec 32 := 1#32
  let v488 : BitVec 32 := Scalar.addi arg13 c1_i32_394
  let c512_i32_395 : BitVec 32 := 512#32
  let v489 : BitVec 32 := Scalar.muli v488 c512_i32_395
  v489
def k0_off15 (i : grid0.Coords) (k0_t2 : Fin (k0_t2_loop i).trips) : Fin 4 → Nat :=
  let c0_396 : Index := 0#32
  let c0_397 : Index := 0#32
  let c0_i32_23 : BitVec 32 := 0#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let v24 : BitVec 32 := Scalar.subi v23 c0_i32_23
  let c1_i32_24 : BitVec 32 := 1#32
  let v26 : BitVec 32 := Scalar.divsi v24 c1_i32_24
  let v27 : BitVec 32 := Scalar.muli v26 c1_i32_24
  let v28 : BitVec 32 := Scalar.addi c0_i32_23 v27
  let c1_i32_26 : BitVec 32 := 1#32
  let arg13 : BitVec 32 := Scf.iv v28 c1_i32_26 k0_t2
  let c1_i32_394 : BitVec 32 := 1#32
  let v488 : BitVec 32 := Scalar.addi arg13 c1_i32_394
  let c512_i32_395 : BitVec 32 := 512#32
  let v489 : BitVec 32 := Scalar.muli v488 c512_i32_395
  let v490 : BitVec 32 := v489
  let v491 : Index := Scalar.indexCast v490
  let c0_398 : Index := 0#32
  ![0, 0, v491.toNat, 0]
def k0_off16 (i : grid0.Coords) (k0_t2 : Fin (k0_t2_loop i).trips) (c0_i32_425 : BitVec 32) : Fin 5 → Nat :=
  let c0_426 : Index := 0#32
  let c3_427 : Index := 3#32
  let c0_i32_23 : BitVec 32 := 0#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let v24 : BitVec 32 := Scalar.subi v23 c0_i32_23
  let c1_i32_24 : BitVec 32 := 1#32
  let v26 : BitVec 32 := Scalar.divsi v24 c1_i32_24
  let v27 : BitVec 32 := Scalar.muli v26 c1_i32_24
  let v28 : BitVec 32 := Scalar.addi c0_i32_23 v27
  let c1_i32_26 : BitVec 32 := 1#32
  let arg13 : BitVec 32 := Scf.iv v28 c1_i32_26 k0_t2
  let c2_i32_424 : BitVec 32 := 2#32
  let v524 : BitVec 32 := Scalar.muli arg13 c2_i32_424
  let v525 : BitVec 32 := Scalar.addi v524 c0_i32_425
  let v526 : Index := Scalar.indexCast v525
  let c0_428 : Index := 0#32
  let c0_429 : Index := 0#32
  ![0, 3, v526.toNat, 0, 0]
def k0_mult10 (i : grid0.Coords) : BitVec 32 :=
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let c512_i32 : BitVec 32 := 512#32
  let v29 : BitVec 32 := Scalar.muli v23 c512_i32
  v29
def k0_off17 (i : grid0.Coords) : Fin 4 → Nat :=
  let c0_27 : Index := 0#32
  let c1 : Index := 1#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let c512_i32 : BitVec 32 := 512#32
  let v29 : BitVec 32 := Scalar.muli v23 c512_i32
  let v30 : BitVec 32 := v29
  let v31 : Index := Scalar.indexCast v30
  let c0_28 : Index := 0#32
  ![0, 1, v31.toNat, 0]
def k0_off18 (i : grid0.Coords) (c0_i32_56 : BitVec 32) : Fin 5 → Nat :=
  let c0_57 : Index := 0#32
  let c0_58 : Index := 0#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let c2_i32 : BitVec 32 := 2#32
  let v67 : BitVec 32 := Scalar.muli v23 c2_i32
  let v68 : BitVec 32 := Scalar.addi v67 c0_i32_56
  let v69 : Index := Scalar.indexCast v68
  let c0_59 : Index := 0#32
  let c0_60 : Index := 0#32
  ![0, 0, v69.toNat, 0, 0]
def k0_mult11 (i : grid0.Coords) : BitVec 32 :=
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let c512_i32_74 : BitVec 32 := 512#32
  let v88 : BitVec 32 := Scalar.muli v23 c512_i32_74
  v88
def k0_off19 (i : grid0.Coords) : Fin 4 → Nat :=
  let c0_75 : Index := 0#32
  let c2 : Index := 2#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let c512_i32_74 : BitVec 32 := 512#32
  let v88 : BitVec 32 := Scalar.muli v23 c512_i32_74
  let v89 : BitVec 32 := v88
  let v90 : Index := Scalar.indexCast v89
  let c0_76 : Index := 0#32
  ![0, 2, v90.toNat, 0]
def k0_off20 (i : grid0.Coords) (c0_i32_105 : BitVec 32) : Fin 5 → Nat :=
  let c0_106 : Index := 0#32
  let c1_107 : Index := 1#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let c2_i32_104 : BitVec 32 := 2#32
  let v126 : BitVec 32 := Scalar.muli v23 c2_i32_104
  let v127 : BitVec 32 := Scalar.addi v126 c0_i32_105
  let v128 : Index := Scalar.indexCast v127
  let c0_108 : Index := 0#32
  let c0_109 : Index := 0#32
  ![0, 1, v128.toNat, 0, 0]
def k0_mult12 (i : grid0.Coords) : BitVec 32 :=
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let c512_i32_123 : BitVec 32 := 512#32
  let v147 : BitVec 32 := Scalar.muli v23 c512_i32_123
  v147
def k0_off21 (i : grid0.Coords) : Fin 4 → Nat :=
  let c0_124 : Index := 0#32
  let c3 : Index := 3#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let c512_i32_123 : BitVec 32 := 512#32
  let v147 : BitVec 32 := Scalar.muli v23 c512_i32_123
  let v148 : BitVec 32 := v147
  let v149 : Index := Scalar.indexCast v148
  let c0_125 : Index := 0#32
  ![0, 3, v149.toNat, 0]
def k0_off22 (i : grid0.Coords) (c0_i32_154 : BitVec 32) : Fin 5 → Nat :=
  let c0_155 : Index := 0#32
  let c2_156 : Index := 2#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let c2_i32_153 : BitVec 32 := 2#32
  let v185 : BitVec 32 := Scalar.muli v23 c2_i32_153
  let v186 : BitVec 32 := Scalar.addi v185 c0_i32_154
  let v187 : Index := Scalar.indexCast v186
  let c0_157 : Index := 0#32
  let c0_158 : Index := 0#32
  ![0, 2, v187.toNat, 0, 0]
def k0_off23 (i : grid0.Coords) (c0_i32_192 : BitVec 32) : Fin 5 → Nat :=
  let c0_193 : Index := 0#32
  let c3_194 : Index := 3#32
  let arg2 : BitVec 32 := BitVec.ofNat 32 (i 2).val
  let c1_i32 : BitVec 32 := 1#32
  let v0 : BitVec 32 := Scalar.addi arg2 c1_i32
  let c1_i32_21 : BitVec 32 := 1#32
  let v23 : BitVec 32 := Scalar.subi v0 c1_i32_21
  let c2_i32_191 : BitVec 32 := 2#32
  let v233 : BitVec 32 := Scalar.muli v23 c2_i32_191
  let v234 : BitVec 32 := Scalar.addi v233 c0_i32_192
  let v235 : Index := Scalar.indexCast v234
  let c0_195 : Index := 0#32
  let c0_196 : Index := 0#32
  ![0, 3, v235.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x4096x8x128 : Shape := ⟨4, ![16, 4096, 8, 128]⟩
abbrev S16x4096x8x64 : Shape := ⟨4, ![16, 4096, 8, 64]⟩
abbrev S16x4096x256 : Shape := ⟨3, ![16, 4096, 256]⟩
abbrev S16x4096x64 : Shape := ⟨3, ![16, 4096, 64]⟩
abbrev S16x4096x1024 : Shape := ⟨3, ![16, 4096, 1024]⟩
abbrev S256x8x128 : Shape := ⟨3, ![256, 8, 128]⟩
abbrev S4096 : Shape := ⟨1, ![4096]⟩
abbrev S8x256x16x4096 : Shape := ⟨4, ![8, 256, 16, 4096]⟩
abbrev S16x4096x8x256 : Shape := ⟨4, ![16, 4096, 8, 256]⟩
abbrev S16x4096x4096x8 : Shape := ⟨4, ![16, 4096, 4096, 8]⟩
abbrev S16x8x4096x4096 : Shape := ⟨4, ![16, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S16x8x4096 : Shape := ⟨3, ![16, 8, 4096]⟩
abbrev S16x8x4096x1 : Shape := ⟨4, ![16, 8, 4096, 1]⟩
abbrev S16x256x8x4096 : Shape := ⟨4, ![16, 256, 8, 4096]⟩
abbrev S8x128x16x4096 : Shape := ⟨4, ![8, 128, 16, 4096]⟩

abbrev nBuf : Space → Nat
  | .hbm => 97
  | .vmem => 0
  | .smem => 0
  | _ => 0

abbrev bufTy : (tb : Table) → Fin (tcTables nBuf tb) → BufTy
  | .hbm, ⟨0, _⟩ => ⟨S16x4096x8x128, .f32⟩
  | .hbm, ⟨1, _⟩ => ⟨S16x4096x8x64, .f32⟩
  | .hbm, ⟨2, _⟩ => ⟨S16x4096x256, .f32⟩
  | .hbm, ⟨3, _⟩ => ⟨S16x4096x64, .f32⟩
  | .hbm, ⟨4, _⟩ => ⟨S16x4096x1024, .f32⟩
  | .hbm, ⟨5, _⟩ => ⟨S256x8x128, .f32⟩
  | .hbm, ⟨6, _⟩ => ⟨S256x8x128, .f32⟩
  | .hbm, ⟨7, _⟩ => ⟨S4096, .i32⟩
  | .hbm, ⟨8, _⟩ => ⟨S8x256x16x4096, .f32⟩
  | .hbm, ⟨9, _⟩ => ⟨S16x4096x8x256, .f32⟩
  | .hbm, ⟨10, _⟩ => ⟨S16x4096x4096x8, .f32⟩
  | .hbm, ⟨11, _⟩ => ⟨S16x8x4096x4096, .f32⟩
  | .hbm, ⟨12, _⟩ => ⟨S16x4096x4096x8, .f32⟩
  | .hbm, ⟨13, _⟩ => ⟨S16x8x4096x4096, .f32⟩
  | .hbm, ⟨14, _⟩ => ⟨S16x8x4096x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16x8x4096x4096, .f32⟩
  | .hbm, ⟨20, _⟩ => ⟨S16x8x4096x4096, .f32⟩
  | .hbm, ⟨21, _⟩ => ⟨S_, .i32⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S1x4096, .i32⟩
  | .hbm, ⟨40, _⟩ => ⟨S_, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S4096x4096, .i32⟩
  | .hbm, ⟨60, _⟩ => ⟨S4096x4096, .i32⟩
  | .hbm, ⟨61, _⟩ => ⟨S4096x4096, .i1⟩
  | .hbm, ⟨62, _⟩ => ⟨S_, .f32⟩
  | .hbm, ⟨63, _⟩ => ⟨S_, .f32⟩
  | .hbm, ⟨64, _⟩ => ⟨S16x8x4096x4096, .i1⟩
  | .hbm, ⟨65, _⟩ => ⟨S16x8x4096x4096, .f32⟩
  | .hbm, ⟨66, _⟩ => ⟨S16x8x4096x4096, .f32⟩
  | .hbm, ⟨67, _⟩ => ⟨S_, .f32⟩
  | .hbm, ⟨68, _⟩ => ⟨S16x8x4096, .f32⟩
  | .hbm, ⟨69, _⟩ => ⟨S_, .f32⟩
  | .hbm, ⟨70, _⟩ => ⟨S16x8x4096, .f32⟩
  | .hbm, ⟨71, _⟩ => ⟨S16x8x4096, .f32⟩
  | .hbm, ⟨72, _⟩ => ⟨S16x8x4096x1, .f32⟩
  | .hbm, ⟨73, _⟩ => ⟨S16x8x4096x4096, .f32⟩
  | .hbm, ⟨74, _⟩ => ⟨S16x8x4096x4096, .f32⟩
  | .hbm, ⟨75, _⟩ => ⟨S16x8x4096x4096, .f32⟩
  | .hbm, ⟨76, _⟩ => ⟨S_, .f32⟩
  | .hbm, ⟨77, _⟩ => ⟨S16x8x4096, .f32⟩
  | .hbm, ⟨78, _⟩ => ⟨S16x8x4096x1, .f32⟩
  | .hbm, ⟨79, _⟩ => ⟨S16x8x4096x4096, .f32⟩
  | .hbm, ⟨80, _⟩ => ⟨S16x8x4096x4096, .f32⟩
  | .hbm, ⟨81, _⟩ => ⟨S16x256x8x4096, .f32⟩
  | .hbm, ⟨82, _⟩ => ⟨S16x4096x8x256, .f32⟩
  | .hbm, ⟨83, _⟩ => ⟨S8x128x16x4096, .f32⟩
  | .hbm, ⟨84, _⟩ => ⟨S16x4096x8x128, .f32⟩
  | .hbm, ⟨85, _⟩ => ⟨S16x4096x1024, .f32⟩
  | .hbm, ⟨86, _⟩ => ⟨S16x4096x1024, .f32⟩
  | .hbm, ⟨87, _⟩ => ⟨S16x4096x1024, .f32⟩
  | .hbm, ⟨88, _⟩ => ⟨S_, .f32⟩
  | .hbm, ⟨89, _⟩ => ⟨S16x4096x1024, .f32⟩
  | .hbm, ⟨90, _⟩ => ⟨S16x4096x1024, .f32⟩
  | .hbm, ⟨91, _⟩ => ⟨S_, .f32⟩
  | .hbm, ⟨92, _⟩ => ⟨S16x4096x1024, .f32⟩
  | .hbm, ⟨93, _⟩ => ⟨S16x4096x1024, .f32⟩
  | .hbm, ⟨94, _⟩ => ⟨S16x4096x1024, .f32⟩
  | .hbm, ⟨95, _⟩ => ⟨S16x4096x1024, .f32⟩
  | .hbm, ⟨96, _⟩ => ⟨S16x4096x1024, .bf16⟩
  | _, _ => ⟨S16x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v12 : Ref sig .tc := ⟨.hbm, 38, rfl⟩
abbrev main_v13 : Ref sig .tc := ⟨.hbm, 39, rfl⟩
abbrev main_c_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_2 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v19 : Ref sig .tc := ⟨.hbm, 66, rfl⟩
abbrev main_cst_3 : Ref sig .tc := ⟨.hbm, 67, rfl⟩
abbrev main_v20 : Ref sig .tc := ⟨.hbm, 68, rfl⟩
abbrev main_cst_4 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_cst_5 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x3072 : Shape := ⟨2, ![16, 3072]⟩
abbrev S1024x1024 : Shape := ⟨2, ![1024, 1024]⟩
abbrev S1024 : Shape := ⟨1, ![1024]⟩
abbrev S1x1024 : Shape := ⟨2, ![1, 1024]⟩
abbrev S16x1x3072 : Shape := ⟨3, ![16, 1, 3072]⟩
abbrev S_ : Shape := ⟨0, ![]⟩
abbrev S1x512x1024 : Shape := ⟨3, ![1, 512, 1024]⟩
abbrev S1x1x3072 : Shape := ⟨3, ![1, 1, 3072]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 36
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S16x3072, .f32⟩
  | .hbm, ⟨2, _⟩ => ⟨S16x4096x1024, .f32⟩
  | .hbm, ⟨3, _⟩ => ⟨S16x4096x1024, .f32⟩
  | .hbm, ⟨4, _⟩ => ⟨S16x4096x1024, .f32⟩
  | .hbm, ⟨5, _⟩ => ⟨S16x4096x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S16x1x3072, .f32⟩
  | .hbm, ⟨15, _⟩ => ⟨S16x4096x1024, .bf16⟩
  | .hbm, ⟨16, _⟩ => ⟨S16x4096x1024, .bf16⟩
  | .hbm, ⟨17, _⟩ => ⟨S16x4096x1024, .f32⟩
  | .hbm, ⟨18, _⟩ => ⟨S16x4096x1024, .f32⟩
  | .hbm, ⟨19, _⟩ => ⟨S_, .f32⟩
  | .hbm, ⟨20, _⟩ => ⟨S16x4096x1024, .f32⟩
  | .hbm, ⟨21, _⟩ => ⟨S16x4096x1024, .f32⟩
  | .hbm, ⟨22, _⟩ => ⟨S_, .f32⟩
  | .hbm, ⟨23, _⟩ => ⟨S16x4096x1024, .f32⟩
  | .hbm, ⟨24, _⟩ => ⟨S16x4096x1024, .f32⟩
  | .hbm, ⟨25, _⟩ => ⟨S16x4096x1024, .bf16⟩
  | .hbm, ⟨26, _⟩ => ⟨S16x4096x1024, .f32⟩
  | .hbm, ⟨27, _⟩ => ⟨S16x4096x1024, .f32⟩
  | .hbm, ⟨28, _⟩ => ⟨S_, .f32⟩
  | .hbm, ⟨29, _⟩ => ⟨S16x4096x1024, .f32⟩
  | .hbm, ⟨30, _⟩ => ⟨S16x4096x1024, .f32⟩
  | .hbm, ⟨31, _⟩ => ⟨S_, .f32⟩
  | .hbm, ⟨32, _⟩ => ⟨S16x4096x1024, .f32⟩
  | .hbm, ⟨33, _⟩ => ⟨S16x4096x1024, .f32⟩
  | .hbm, ⟨34, _⟩ => ⟨S16x4096x1024, .bf16⟩
  | .hbm, ⟨35, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S16x4096x1024 : Shape := ⟨3, ![16, 4096, 1024]⟩
abbrev S16x3072 : Shape := ⟨2, ![16, 3072]⟩
abbrev S1024x1024 : Shape := ⟨2, ![1024, 1024]⟩
abbrev S1024 : Shape := ⟨1, ![1024]⟩
abbrev S16x1x3072 : Shape := ⟨3, ![16, 1, 3072]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x3072, .f32⟩
  | .hbm, ⟨2, _⟩ => ⟨S16x4096x1024, .f32⟩
  | .hbm, ⟨3, _⟩ => ⟨S16x4096x1024, .f32⟩
  | .hbm, ⟨4, _⟩ => ⟨S16x4096x1024, .f32⟩
  | .hbm, ⟨5, _⟩ => ⟨S16x4096x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S16x1x3072, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x4096x1024, .f32⟩
  | .hbm, ⟨15, _⟩ => ⟨S16x4096x1024, .f32⟩
  | .hbm, ⟨16, _⟩ => ⟨S_, .f32⟩
  | .hbm, ⟨17, _⟩ => ⟨S16x4096x1024, .f32⟩
  | .hbm, ⟨18, _⟩ => ⟨S16x4096x1024, .f32⟩
  | .hbm, ⟨19, _⟩ => ⟨S_, .f32⟩
  | .hbm, ⟨20, _⟩ => ⟨S16x4096x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S16x4096x1024, .f32⟩
  | .hbm, ⟨25, _⟩ => ⟨S16x4096x1024, .f32⟩
  | .hbm, ⟨26, _⟩ => ⟨S_, .f32⟩
  | .hbm, ⟨27, _⟩ => ⟨S16x4096x1024, .f32⟩
  | .hbm, ⟨28, _⟩ => ⟨S16x4096x1024, .f32⟩
  | .hbm, ⟨29, _⟩ => ⟨S_, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S16x4096x1024, .f32⟩
  | .hbm, ⟨36, _⟩ => ⟨S16x4096x1024, .f32⟩
  | .hbm, ⟨37, _⟩ => ⟨S_, .f32⟩
  | .hbm, ⟨38, _⟩ => ⟨S16x4096, .f32⟩
  | .hbm, ⟨39, _⟩ => ⟨S16x4096x1, .f32⟩
  | .hbm, ⟨40, _⟩ => ⟨S_, .f32⟩
  | .hbm, ⟨41, _⟩ => ⟨S16x4096x1, .f32⟩
  | .hbm, ⟨42, _⟩ => ⟨S16x4096x1, .f32⟩
  | .hbm, ⟨43, _⟩ => ⟨S_, .f32⟩
  | .hbm, ⟨44, _⟩ => ⟨S16x4096x1, .f32⟩
  | .hbm, ⟨45, _⟩ => ⟨S16x4096x1, .f32⟩
  | .hbm, ⟨46, _⟩ => ⟨S16x4096x1, .f32⟩
  | .hbm, ⟨47, _⟩ => ⟨S16x4096x1024, .f32⟩
  | .hbm, ⟨48, _⟩ => ⟨S16x4096x1024, .f32⟩
  | .hbm, ⟨49, _⟩ => ⟨S1x1x1024, .f32⟩
  | .hbm, ⟨50, _⟩ => ⟨S16x4096x1024, .f32⟩
  | .hbm, ⟨51, _⟩ => ⟨S16x4096x1024, .f32⟩
  | .hbm, ⟨52, _⟩ => ⟨S16x4096x1024, .f32⟩
  | .hbm, ⟨53, _⟩ => ⟨S16x4096x1024, .f32⟩
  | .hbm, ⟨54, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Kernel3.lean ====
abbrev S16x1024 : Shape := ⟨2, ![16, 1024]⟩
abbrev S32x1024 : Shape := ⟨2, ![32, 1024]⟩
abbrev S2x1024x3072 : Shape := ⟨3, ![2, 1024, 3072]⟩
abbrev S2x3072 : Shape := ⟨2, ![2, 3072]⟩
abbrev S48x1024 : Shape := ⟨2, ![48, 1024]⟩
abbrev S2x1x3072 : Shape := ⟨3, ![2, 1, 3072]⟩
abbrev S2x48x3072 : Shape := ⟨3, ![2, 48, 3072]⟩
abbrev S1x1024x1024 : Shape := ⟨3, ![1, 1024, 1024]⟩
abbrev S1x1x1024 : Shape := ⟨3, ![1, 1, 1024]⟩
abbrev S1x48x1024 : Shape := ⟨3, ![1, 48, 1024]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S32x1024, .f32⟩
  | .hbm, ⟨2, _⟩ => ⟨S2x1024x3072, .f32⟩
  | .hbm, ⟨3, _⟩ => ⟨S2x3072, .f32⟩
  | .hbm, ⟨4, _⟩ => ⟨S48x1024, .f32⟩
  | .hbm, ⟨5, _⟩ => ⟨S2x1x3072, .f32⟩
  | .hbm, ⟨6, _⟩ => ⟨S2x48x3072, .f32⟩
  | .local _ .vmem, ⟨0, _⟩ => ⟨S48x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x48x1024, .f32⟩
  | .local _ .vmem, ⟨6, _⟩ => ⟨S1x48x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x48x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16x1024 : Shape := ⟨2, ![16, 1024]⟩
abbrev S32x1024 : Shape := ⟨2, ![32, 1024]⟩
abbrev S2x1024x3072 : Shape := ⟨3, ![2, 1024, 3072]⟩
abbrev S2x3072 : Shape := ⟨2, ![2, 3072]⟩
abbrev S_ : Shape := ⟨0, ![]⟩
abbrev S2x3072x16 : Shape := ⟨3, ![2, 3072, 16]⟩
abbrev S2x16x3072 : Shape := ⟨3, ![2, 16, 3072]⟩
abbrev S2x1x3072 : Shape := ⟨3, ![2, 1, 3072]⟩
abbrev S2x3072x32 : Shape := ⟨3, ![2, 3072, 32]⟩
abbrev S2x32x3072 : Shape := ⟨3, ![2, 32, 3072]⟩
abbrev S2x48x3072 : Shape := ⟨3, ![2, 48, 3072]⟩

abbrev nBuf : Space → Nat
  | .hbm => 33
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S32x1024, .f32⟩
  | .hbm, ⟨2, _⟩ => ⟨S2x1024x3072, .f32⟩
  | .hbm, ⟨3, _⟩ => ⟨S2x3072, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S2x3072x16, .f32⟩
  | .hbm, ⟨14, _⟩ => ⟨S2x16x3072, .f32⟩
  | .hbm, ⟨15, _⟩ => ⟨S2x1x3072, .f32⟩
  | .hbm, ⟨16, _⟩ => ⟨S2x16x3072, .f32⟩
  | .hbm, ⟨17, _⟩ => ⟨S2x16x3072, .f32⟩
  | .hbm, ⟨18, _⟩ => ⟨S32x1024, .f32⟩
  | .hbm, ⟨19, _⟩ => ⟨S32x1024, .f32⟩
  | .hbm, ⟨20, _⟩ => ⟨S_, .f32⟩
  | .hbm, ⟨21, _⟩ => ⟨S32x1024, .f32⟩
  | .hbm, ⟨22, _⟩ => ⟨S32x1024, .f32⟩
  | .hbm, ⟨23, _⟩ => ⟨S_, .f32⟩
  | .hbm, ⟨24, _⟩ => ⟨S32x1024, .f32⟩
  | .hbm, ⟨25, _⟩ => ⟨S32x1024, .f32⟩
  | .hbm, ⟨26, _⟩ => ⟨S32x1024, .f32⟩
  | .hbm, ⟨27, _⟩ => ⟨S2x3072x32, .f32⟩
  | .hbm, ⟨28, _⟩ => ⟨S2x32x3072, .f32⟩
  | .hbm, ⟨29, _⟩ => ⟨S2x1x3072, .f32⟩
  | .hbm, ⟨30, _⟩ => ⟨S2x32x3072, .f32⟩
  | .hbm, ⟨31, _⟩ => ⟨S2x32x3072, .f32⟩
  | .hbm, ⟨32, _⟩ => ⟨S2x48x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Proof.KernelIdeal.Body.lean ====
/- The body of the attention call run once. -/
module

public import proofs.«01_k».proof.Proof.Gen.KernelIdeal.Frame
public import proofs.«01_k».proof.Proof.Gen.KernelIdeal.Loops

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

/-- What the body is given: the five inputs, the output's buffer and the four scratch buffers. -/
abbrev Pre (c : Dev nD) (arg3 : Memref sig .tc .vmem S1x4x512x256 .bf16) (arg4 : Memref sig .tc .vmem S1x4x4096x256 .bf16) (arg5 : Memref sig .tc .vmem S1x4x16x128x256 .bf16) (arg6 : Memref sig .tc .vmem S1x512x512 .bf16) (arg7 : Memref sig .tc .vmem S512x512 .f32) (arg8 : Memref sig .tc .vmem S1x512x512 .bf16) (arg9 : Memref sig .tc .vmem S4x1x512 .f32) (arg10 : Memref sig .tc .vmem S4x1x512 .f32) (arg11 : Memref sig .tc .vmem S4x128x512 .f32) (arg12 : Memref sig .tc .vmem S4x512x512 .f32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))

/-- What it leaves: the inputs as they were, the output's buffer, the scratch buffers at some contents. -/
abbrev Post (c : Dev nD) (arg3 : Memref sig .tc .vmem S1x4x512x256 .bf16) (arg4 : Memref sig .tc .vmem S1x4x4096x256 .bf16) (arg5 : Memref sig .tc .vmem S1x4x16x128x256 .bf16) (arg6 : Memref sig .tc .vmem S1x512x512 .bf16) (arg7 : Memref sig .tc .vmem S512x512 .f32) (arg8 : Memref sig .tc .vmem S1x512x512 .bf16) (arg9 : Memref sig .tc .vmem S4x1x512 .f32) (arg10 : Memref sig .tc .vmem S4x1x512 .f32) (arg11 : Memref sig .tc .vmem S4x128x512 .f32) (arg12 : Memref sig .tc .vmem S4x512x512 .f32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (g8 : BufTy.Contents (Elt F) arg8.view.ty) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} g8) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)))

set_option maxHeartbeats 4000000 in
/-- The body run once: the pieces it stores into the output's buffer, and the triple. -/
@[irreducible] def bodyRun (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x16x128x256 .bf16) (harg5 : arg5.IsWhole) (arg6 : Memref sig .tc .vmem S1x512x512 .bf16) (harg6 : arg6.IsWhole) (arg7 : Memref sig .tc .vmem S512x512 .f32) (harg7 : arg7.IsWhole) (arg8 : Memref sig .tc .vmem S1x512x512 .bf16) (harg8 : arg8.IsWhole) (arg9 : Memref sig .tc .vmem S4x1x512 .f32) (harg9 : arg9.IsWhole) (arg10 : Memref sig .tc .vmem S4x1x512 .f32) (harg10 : arg10.IsWhole) (arg11 : Memref sig .tc .vmem S4x128x512 .f32) (harg11 : arg11.IsWhole) (arg12 : Memref sig .tc .vmem S4x512x512 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    { L : BufTy.Contents (Elt F) arg9.view.ty → BufTy.Contents (Elt F) arg10.view.ty → BufTy.Contents (Elt F) arg11.view.ty → BufTy.Contents (Elt F) arg12.view.ty → List (View.Piece (Elt F) S1x512x512 .bf16) // ∀ (E : Set ℕ) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
      Pre (F := F) c arg3 arg4 arg5 arg6 arg7 arg8 arg9 arg10 arg11 arg12 X3 X4 X5 X6 X7 f8 f9 f10 f11 f12
      ⊢ wp frame (wpE (defs₀ (F := F)) Variants.none (c : Thread nD τ) none) E (cc0_mla_attention_heads (F := F) i arg3 harg3 arg4 harg4 arg5 harg5 arg6 harg6 arg7 harg7 arg8 harg8 arg9 harg9 arg10 harg10 arg11 harg11 arg12 harg12)
          (fun _ => Post (F := F) c arg3 arg4 arg5 arg6 arg7 arg8 arg9 arg10 arg11 arg12 X3 X4 X5 X6 X7 (arg8.view.writes (Elt F) f8 (L f9 f10 f11 f12))) } := by
  refine ⟨?_, fun E f8 f9 f10 f11 f12 => ?run⟩
  case run =>
    simp only [cc0_mla_attention_heads_eq_skeleton]; unfold cc0_mla_attention_heads_skel
    simp only [k0_part16_eq_skeleton]
    iintro ⟨H3, H4, H5, H6, H7, H8, H9, H10, H11, H12⟩
    sl_exec
    sl_step
    sl_close

end Cert.KernelIdeal.Body

end
-- ==== Proof.KernelIdeal.Run.lean ====
/- The run of the attention call, the output's array held to what the body leaves. -/
module

public import proofs.«01_k».proof.Proof.Gen.KernelIdeal.Points
public import proofs.«01_k».proof.Proof.Gen.KernelIdeal.Frame
public import proofs.«01_k».proof.Proof.KernelIdeal.Body
public import Idealize.ShloMosaic.Lib.Pipeline.DatRel

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

/-- What the output's buffer holds after the body: the pieces stored, read back over whatever it held. -/
def Left (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x16x128x256 .bf16) (harg5 : arg5.IsWhole) (arg6 : Memref sig .tc .vmem S1x512x512 .bf16) (harg6 : arg6.IsWhole) (arg7 : Memref sig .tc .vmem S512x512 .f32) (harg7 : arg7.IsWhole) (arg8 : Memref sig .tc .vmem S1x512x512 .bf16) (harg8 : arg8.IsWhole) (arg9 : Memref sig .tc .vmem S4x1x512 .f32) (harg9 : arg9.IsWhole) (arg10 : Memref sig .tc .vmem S4x1x512 .f32) (harg10 : arg10.IsWhole) (arg11 : Memref sig .tc .vmem S4x128x512 .f32) (harg11 : arg11.IsWhole) (arg12 : Memref sig .tc .vmem S4x512x512 .f32) (harg12 : arg12.IsWhole) (x3 : Vec F S1x4x512x256 .bf16) (x4 : Vec F S1x4x4096x256 .bf16) (x5 : Vec F S1x4x16x128x256 .bf16) (x6 : Vec F S1x512x512 .bf16) (x7 : Vec F S512x512 .f32) (X : Vec F S1x512x512 .bf16) : Prop :=
  ∃ (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty), arg3.view.read (Elt F) X3 = x3 ∧ arg4.view.read (Elt F) X4 = x4 ∧ arg5.view.read (Elt F) X5 = x5 ∧ arg6.view.read (Elt F) X6 = x6 ∧ arg7.view.read (Elt F) X7 = x7
    ∧ X = arg8.view.read (Elt F) (arg8.view.writes (Elt F) f8 ((bodyRun (F := F) c i arg3 harg3 arg4 harg4 arg5 harg5 arg6 harg6 arg7 harg7 arg8 harg8 arg9 harg9 arg10 harg10 arg11 harg11 arg12 harg12 X3 X4 X5 X6 X7).1 f9 f10 f11 f12))

/-- The body's triple over owned memrefs. -/
theorem sound_kernel (c : Dev nD) (E : Set ℕ) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x16x128x256 .bf16) (harg5 : arg5.IsWhole) (arg6 : Memref sig .tc .vmem S1x512x512 .bf16) (harg6 : arg6.IsWhole) (arg7 : Memref sig .tc .vmem S512x512 .f32) (harg7 : arg7.IsWhole) (arg8 : Memref sig .tc .vmem S1x512x512 .bf16) (harg8 : arg8.IsWhole) (arg9 : Memref sig .tc .vmem S4x1x512 .f32) (harg9 : arg9.IsWhole) (arg10 : Memref sig .tc .vmem S4x1x512 .f32) (harg10 : arg10.IsWhole) (arg11 : Memref sig .tc .vmem S4x128x512 .f32) (harg11 : arg11.IsWhole) (arg12 : Memref sig .tc .vmem S4x512x512 .f32) (harg12 : arg12.IsWhole) (x3 : Vec F S1x4x512x256 .bf16) (x4 : Vec F S1x4x4096x256 .bf16) (x5 : Vec F S1x4x16x128x256 .bf16) (x6 : Vec F S1x512x512 .bf16) (x7 : Vec F S512x512 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ X, ⌜Left (F := F) c i arg3 harg3 arg4 harg4 arg5 harg5 arg6 harg6 arg7 harg7 arg8 harg8 arg9 harg9 arg10 harg10 arg11 harg11 arg12 harg12 x3 x4 x5 x6 x7 X⌝ ∗ owns (c : Thread nD τ) arg8 fullShare X) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none (c : Thread nD τ) none) E (cc0_mla_attention_heads (F := F) i arg3 harg3 arg4 harg4 arg5 harg5 arg6 harg6 arg7 harg7 arg8 harg8 arg9 harg9 arg10 harg10 arg11 harg11 arg12 harg12) K := by
  unfold owns
  iintro ⟨⟨%X3, %h3, H3⟩, ⟨%X4, %h4, H4⟩, ⟨%X5, %h5, H5⟩, ⟨%X6, %h6, H6⟩, ⟨%X7, %h7, H7⟩, ⟨%d8, %f8, -, H8⟩, ⟨%d9, %f9, -, H9⟩, ⟨%d10, %f10, -, H10⟩, ⟨%d11, %f11, -, H11⟩, ⟨%d12, %f12, -, H12⟩, Hk⟩
  iapply (wp_wand_r Idealize.ShloMosaic.frame (wpE (defs₀ (F := F)) Variants.none (c : Thread nD τ) none) E)
  isplitl [H3 H4 H5 H6 H7 H8 H9 H10 H11 H12]
  · iapply ((bodyRun (F := F) c i arg3 harg3 arg4 harg4 arg5 harg5 arg6 harg6 arg7 harg7 arg8 harg8 arg9 harg9 arg10 harg10 arg11 harg11 arg12 harg12 X3 X4 X5 X6 X7).2 E f8 f9 f10 f11 f12)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro %_ ⟨H3, H4, H5, H6, H7, H8, ⟨%g9, H9⟩, ⟨%g10, H10⟩, ⟨%g11, H11⟩, ⟨%g12, H12⟩⟩
    iapply Hk
    isplitl [H3]; · iexists _; isplitr; (· ipureintro; exact h3); iexact H3
    isplitl [H4]; · iexists _; isplitr; (· ipureintro; exact h4); iexact H4
    isplitl [H5]; · iexists _; isplitr; (· ipureintro; exact h5); iexact H5
    isplitl [H6]; · iexists _; isplitr; (· ipureintro; exact h6); iexact H6
    isplitl [H7]; · iexists _; isplitr; (· ipureintro; exact h7); iexact H7
    isplitl [H8]
    · iexists _; isplitr
      · ipureintro; exact ⟨X3, X4, X5, X6, X7, f8, f9, f10, f11, f12, h3, h4, h5, h6, h7, rfl⟩
      · iexists _; isplitr; (· ipureintro; rfl); iexact H8
    isplitl [H9]; · iexists (arg9.view.read (Elt F) g9); iexists g9; isplitr; (· ipureintro; rfl); iexact H9
    isplitl [H10]; · iexists (arg10.view.read (Elt F) g10); iexists g10; isplitr; (· ipureintro; rfl); iexact H10
    isplitl [H11]; · iexists (arg11.view.read (Elt F) g11); iexists g11; isplitr; (· ipureintro; rfl); iexact H11
    iexists (arg12.view.read (Elt F) g12); iexists g12; isplitr; (· ipureintro; rfl); iexact H12

variable (m : (ℓ : Loc nD τ sig) → Buf (Elt F) ℓ) (ρ : Dev nD → PrngReg)

/-- The exact part of the proof data: every input's buffer keeps its block. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.arbitrary _
  Φ _ := Pipeline.ΦA spec0 c
  q _ := fullShare
  owed _ := 0

/-- The one window of which only a relation is stated: the output. -/
def fgt : Fin cfg0.W → Bool
  | ⟨5, _⟩ => true
  | ⟨_, _⟩ => false

/-- At point `t` the output's block is what the body left of the inputs' blocks. -/
def Rl (c : Dev nD) : (w : Fin cfg0.W) → Fin cfg0.N → ((cfg0.win w).block.Idx → Elt F (cfg0.win w).elt) → Prop
  | ⟨5, _⟩, t, X => Left (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) X
  | _, _, _ => True

theorem A_eq (c : Dev nD) (w : Fin cfg0.W) : (dats m c).A w = V m c (Pipeline.arrRef spec0 w) := by dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d
theorem before0_2 (c : Dev nD) (t : Fin cfg0.N) (d) : (dats m c).before 2 t d = iblk m c 2 t :=
  before0_2_of m (dats m c) (A_eq m c 2) (after0_2 m c) t d
theorem before0_3 (c : Dev nD) (t : Fin cfg0.N) (d) : (dats m c).before 3 t d = iblk m c 3 t :=
  before0_3_of m (dats m c) (A_eq m c 3) (after0_3 m c) t d
theorem before0_4 (c : Dev nD) (t : Fin cfg0.N) (d) : (dats m c).before 4 t d = iblk m c 4 t :=
  before0_4_of m (dats m c) (A_eq m c 4) (after0_4 m c) t d

/-- What the body is called with at point `t`, -/
def bodyPre (c : Dev nD) (t : Fin cfg0.N) : sProp 𝕄 :=
  iprop((dats m c).Φ t.castSucc ∗ (dats m c).owesAt () t.castSucc
    ∗ (∃ d, owns (c : Thread nD τ) (st0_0 t) fullShare ((dats m c).before 0 t d))
    ∗ (∃ d, owns (c : Thread nD τ) (st0_1 t) fullShare ((dats m c).before 1 t d))
    ∗ (∃ d, owns (c : Thread nD τ) (st0_2 t) fullShare ((dats m c).before 2 t d))
    ∗ (∃ d, owns (c : Thread nD τ) (st0_3 t) fullShare ((dats m c).before 3 t d))
    ∗ (∃ d, owns (c : Thread nD τ) (st0_4 t) fullShare ((dats m c).before 4 t d))
    ∗ (∃ Y, ⌜((dats m c).toRRel fgt (Rl m c)).Finds 5 t Y⌝ ∗ owns (c : Thread nD τ) (st0_5 t) fullShare Y))

/-- and what it returns. -/
def bodyPost (c : Dev nD) (t : Fin cfg0.N) : sProp 𝕄 :=
  iprop((dats m c).Φ t.succ ∗ (dats m c).owesAt () t.succ
    ∗ owns (c : Thread nD τ) (st0_0 t) fullShare ((dats m c).after 0 t)
    ∗ owns (c : Thread nD τ) (st0_1 t) fullShare ((dats m c).after 1 t)
    ∗ owns (c : Thread nD τ) (st0_2 t) fullShare ((dats m c).after 2 t)
    ∗ owns (c : Thread nD τ) (st0_3 t) fullShare ((dats m c).after 3 t)
    ∗ owns (c : Thread nD τ) (st0_4 t) fullShare ((dats m c).after 4 t)
    ∗ (∃ X, ⌜Rl m c 5 t X⌝ ∗ owns (c : Thread nD τ) (st0_5 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m c).Φ t.succ = Pipeline.ΦA spec0 c from rfl, show (dats m c).Φ t.castSucc = Pipeline.ΦA spec0 c from rfl,
    show (dats m c).owesAt () t.succ = (dats m c).owesAt () t.castSucc from rfl,
    after0_0, after0_1, after0_2, after0_3, after0_4]
  unfold Pipeline.ΦA
  rw [scopedRest0_eq]
  simp only [← owns_whole]
  iintro ⟨⟨⟨S0, S1, S2, S3⟩, Hr⟩, Ho, ⟨%d0, H0⟩, ⟨%d1, H1⟩, ⟨%d2, H2⟩, ⟨%d3, H3⟩, ⟨%d4, H4⟩, ⟨%d5, -, H5⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  iintro ⟨H0, H1, H2, H3, H4, H5, S0, S1, S2, S3⟩
  isplitl [S0 S1 S2 S3 Hr]
  · isplitl [S0 S1 S2 S3]
    · isplitl [S0]; · iexact S0
      isplitl [S1]; · iexact S1
      isplitl [S2]; · iexact S2
      iexact S3
    · iexact Hr
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats (F := F) m c) (defs₀ (F := F)) Variants.none () Set.univ fgt (Rl m c) := fun t => by
  rw [bigSep_W0, bigSep_W0, defs₀_row]
  exact triple_restated (sound_body m c t) rfl .rfl fun _ => .rfl

/-- The relational proof data of the run. -/
def rdat (c : Dev nD) : RDat τ (Elt F) Unit ℕ (UR sig nD τ) ℕ cfg0 c := (dats m c).toRRel fgt (Rl m c)

set_option backward.isDefEq.respectTransparency.types false in
set_option maxHeartbeats 800000 in
/-- The launch: every execution ends, with the arrays as the relational data say and every counter at zero. -/
theorem run_main : θ_run defs (onTc (τ := τ) (main (F := F))) (s₀ m ρ) (fun r => RDat.FramePost cfg0 (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m c).share_full fun _ => rfl)
    (howed := fun _ _ => rfl) (V := V m) (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ) ∧ r.2.sem = fun _ => 0) :=
  (θ_run defs _ _).mono (fun _ h => ⟨fun c => ⟨
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c)
    ⟩, h.2⟩) (run_main m ρ)

end Cert.KernelIdeal.Body

end
-- ==== Proof.Outproj.lean ====
module

public import proofs.«01_k».proof.Defs
public import proofs.«01_k».proof.Proof.Gen.Kernel2Ideal.Value
public import proofs.«01_k».proof.Proof.Gen.Reference2Ideal.Run
public import Idealize.ShloMosaic.Lib.Pointwise

@[expose] public section

noncomputable section

open Idealize.ShloMosaic Idealize.ShloMosaic.TcCoe Idealize.SL.Sem
open Idealize.ShloMosaic.Pipeline (Dat)

/-! ## One row of the output projection -/

namespace Cert.OutSpec

/-- The two gated branches of one token, merged: at channel `d`. -/
def merged (sa sb ya yb : Fin 1024 → EReal) (wa wb : Fin 1024 → Fin 1024 → EReal) (d : Fin 1024) : EReal :=
  sa d * (∑ w, ya w * wa w d) + sb d * (∑ w, yb w * wb w d)

/-- The projection of a merged row: at channel `e`. -/
def proj (mg : Fin 1024 → EReal) (wo : Fin 1024 → Fin 1024 → EReal) (e : Fin 1024) : EReal :=
  ∑ d, mg d * wo d e

/-- The gatedRow row: the projected row normalised, scaled and gated, added to the token. -/
def gatedRow (x g pn o : Fin 1024 → EReal) (e : Fin 1024) : EReal :=
  x e + g e * (o e * Ideal.rsqrt (Ideal.div (∑ k, o k * o k) (Ideal.ofBits .f32 0x44800000#32)
    + Ideal.ofBits .f32 0x358637BD#32) * pn e)

/-- The row depends on its data entry by entry. -/
theorem row_congr {x x' g g' pn pn' sa sa' sb sb' ya ya' yb yb' : Fin 1024 → EReal} {wa wa' wb wb' wo wo' : Fin 1024 → Fin 1024 → EReal}
    (hx : ∀ e, x e = x' e) (hg : ∀ e, g e = g' e) (hpn : ∀ e, pn e = pn' e) (hsa : ∀ e, sa e = sa' e) (hsb : ∀ e, sb e = sb' e)
    (hya : ∀ e, ya e = ya' e) (hyb : ∀ e, yb e = yb' e) (hwa : ∀ w d, wa w d = wa' w d) (hwb : ∀ w d, wb w d = wb' w d)
    (hwo : ∀ d e, wo d e = wo' d e) (e : Fin 1024) :
    gatedRow x g pn (proj (merged sa sb ya yb wa wb) wo) e = gatedRow x' g' pn' (proj (merged sa' sb' ya' yb' wa' wb') wo') e := by
  obtain rfl := funext hx
  obtain rfl := funext hg
  obtain rfl := funext hpn
  obtain rfl := funext hsa
  obtain rfl := funext hsb
  obtain rfl := funext hya
  obtain rfl := funext hyb
  obtain rfl := funext fun w => funext (hwa w)
  obtain rfl := funext fun w => funext (hwb w)
  obtain rfl := funext fun w => funext (hwo w)
  rfl

end Cert.OutSpec

namespace Cert.Kernel2Ideal.RefValue

open Cert.Kernel2Ideal Cert.Kernel2Ideal.Gen Cert.OutSpec

theorem pay_apply (P0 : Vec Ideal S1x512x1024 .f32) (P1 : Vec Ideal S1x1x3072 .f32) (P2 P3 : Vec Ideal S1x512x1024 .bf16)
    (P4 P5 : Vec Ideal S1024x1024 .bf16) (P6 P7 : Vec Ideal S1x512x1024 .bf16) (P8 : Vec Ideal S1024x1024 .bf16)
    (P9 : Vec Ideal S1x1024 .f32) (r : Fin 512) (e : Fin 1024) :
    k0_pay1 (k0_pay2 P2 P3 P4 P5 P6 P7 P8) (k0_pay3 P1) P0 P9 (ix3 0 r e) =
      gatedRow (fun e => P0 (ix3 0 r e)) (fun e => P1 (ix3 0 0 ⟨2048 + e, by omega⟩)) (fun e => P9 (ix2 0 e))
        (proj (merged (fun d => P6 (ix3 0 r d)) (fun d => P7 (ix3 0 r d)) (fun d => P2 (ix3 0 r d)) (fun d => P3 (ix3 0 r d))
          (fun w d => P4 (ix2 w d)) (fun w d => P5 (ix2 w d))) (fun d e => P8 (ix2 d e))) e := by
  pointwise [k0_pay1, k0_pay2, k0_pay3, gatedRow, proj, merged]

variable (m : (ℓ : Loc nD τ sig) → Buf (Elt Ideal) ℓ) (c : Dev nD)

/-- The block index of each kind of window: by batch and token tile, by batch, or the whole array. -/
theorem idx_facts : ∀ t : Fin grid0.N, win0_0.index t = ![t.val / 8, t.val % 8, 0] ∧ win0_1.index t = ![t.val / 8, 0, 0]
    ∧ win0_6.index t = ![0, 0] ∧ win0_9.index t = ![0, 0] := by
  decide +kernel

/-- The batch and the token row of row `r` of point `t`'s block. -/
abbrev bat (t : Fin grid0.N) : Fin 16 := ⟨t.val / 8, by have h : t.val < 128 := t.isLt; omega⟩
abbrev tok (t : Fin grid0.N) (r : Fin 512) : Fin 4096 := ⟨t.val % 8 * 512 + r.val, by omega⟩

theorem emb_tok (t : Fin grid0.N) (r : Fin 512) (e : Fin 1024) :
    ((win0_0.rect t).emb (ix3 0 r e) : S16x4096x1024.Idx) = ix3 (bat t) (tok t r) e := by
  refine funext fun a => Fin.ext ?_
  refine (win0_0.rect_emb_val t (ix3 0 r e) a).trans ?_
  rw [(idx_facts t).1]
  match a with
  | ⟨0, _⟩ => show t.val / 8 * 1 + 0 = t.val / 8; omega
  | ⟨1, _⟩ => rfl
  | ⟨2, _⟩ => show 0 * 1024 + e.val = e.val; omega

theorem emb_mod (t : Fin grid0.N) (e : Fin 3072) :
    ((win0_1.rect t).emb (ix3 0 0 e) : S16x1x3072.Idx) = ix3 (bat t) 0 e := by
  refine funext fun a => Fin.ext ?_
  refine (win0_1.rect_emb_val t (ix3 0 0 e) a).trans ?_
  rw [(idx_facts t).2.1]
  match a with
  | ⟨0, _⟩ => show t.val / 8 * 1 + 0 = t.val / 8; omega
  | ⟨1, _⟩ => rfl
  | ⟨2, _⟩ => show 0 * 3072 + e.val = e.val; omega

theorem emb_mat (t : Fin grid0.N) (y : S1024x1024.Idx) : ((win0_6.rect t).emb y : S1024x1024.Idx) = y := by
  refine funext fun a => Fin.ext (win0_6.rect_emb_val_of_index_zero t a ?_ y)
  rw [(idx_facts t).2.2.1]
  match a with
  | ⟨0, _⟩ => rfl
  | ⟨1, _⟩ => rfl

theorem emb_vec (t : Fin grid0.N) (y : S1x1024.Idx) : ((win0_9.rect t).emb y : S1x1024.Idx) = y := by
  refine funext fun a => Fin.ext (win0_9.rect_emb_val_of_index_zero t a ?_ y)
  rw [(idx_facts t).2.2.2]
  match a with
  | ⟨0, _⟩ => rfl
  | ⟨1, _⟩ => rfl

/-- The logistic function as the host computes it. -/
abbrev logis (x : EReal) : EReal := Ideal.div 1 (1 + Ideal.exp (-x))

theorem V_v0 : (V m c main_v0 : S1024x1024.Idx → EReal) = m ((c : Thread nD τ).loc main_arg6) := by
  unfold V hostOps0; after_results_simp; rfl
theorem V_v1 : (V m c main_v1 : S1024x1024.Idx → EReal) = m ((c : Thread nD τ).loc main_arg7) := by
  unfold V hostOps0; after_results_simp; rfl
theorem V_v2 : (V m c main_v2 : S1024x1024.Idx → EReal) = m ((c : Thread nD τ).loc main_arg8) := by
  unfold V hostOps0; after_results_simp; rfl
theorem V_v3 (e : Fin 1024) : V m c main_v3 (ix2 0 e) = m ((c : Thread nD τ).loc main_arg9) (ix1 e) := by
  have h : V m c main_v3 = shapeCast S1x1024 (m ((c : Thread nD τ).loc main_arg9)) shapeCasts_S1024_S1x1024 := by
    unfold V hostOps0; after_results_simp; rfl
  rw [h]; pointwise
theorem V_v4 (a : Fin 16) (e : Fin 3072) :
    V m c main_v4 (ix3 a 0 e) = m ((c : Thread nD τ).loc main_arg1) (ix2 a e) := by
  have h : V m c main_v4 = broadcastInDim S16x1x3072 ![0, 2] bcast_S16x3072_S16x1x3072_0_2 (m ((c : Thread nD τ).loc main_arg1)) := by
    unfold V hostOps0; after_results_simp
  rw [h]; pointwise
theorem V_v5 : (V m c main_v5 : S16x4096x1024.Idx → EReal) = m ((c : Thread nD τ).loc main_arg2) := by
  unfold V hostOps0; after_results_simp; rfl
theorem V_v6 : (V m c main_v6 : S16x4096x1024.Idx → EReal) = m ((c : Thread nD τ).loc main_arg3) := by
  unfold V hostOps0; after_results_simp; rfl
theorem V_v13 (y : S16x4096x1024.Idx) : V m c main_v13 y = logis (m ((c : Thread nD τ).loc main_arg4) y) := by
  unfold V hostOps0; after_results_simp; pointwise
theorem V_v20 (y : S16x4096x1024.Idx) : V m c main_v20 y = logis (m ((c : Thread nD τ).loc main_arg5) y) := by
  unfold V hostOps0; after_results_simp; pointwise

/-- The layer's output at batch `b`, token `s`, channel `e`, from the argument arrays. -/
def out (b : Fin 16) (s : Fin 4096) (e : Fin 1024) : EReal :=
  gatedRow (fun e => m ((c : Thread nD τ).loc main_arg0) (ix3 b s e))
    (fun e => m ((c : Thread nD τ).loc main_arg1) (ix2 b ⟨2048 + e, by omega⟩)) (fun e => m ((c : Thread nD τ).loc main_arg9) (ix1 e))
    (proj (merged (fun d => logis (m ((c : Thread nD τ).loc main_arg4) (ix3 b s d)))
      (fun d => logis (m ((c : Thread nD τ).loc main_arg5) (ix3 b s d)))
      (fun d => m ((c : Thread nD τ).loc main_arg2) (ix3 b s d)) (fun d => m ((c : Thread nD τ).loc main_arg3) (ix3 b s d))
      (fun w d => m ((c : Thread nD τ).loc main_arg6) (ix2 w d)) (fun w d => m ((c : Thread nD τ).loc main_arg7) (ix2 w d)))
      (fun d e => m ((c : Thread nD τ).loc main_arg8) (ix2 d e))) e

/-- The output array. -/
def outArr : Buf (Elt Ideal) ((c : Thread nD τ).loc main_v21) := fun i : S16x4096x1024.Idx => out m c (i 0) (i 1) (i 2)

theorem hz2 : (![0, 0] : Fin 2 → Nat) = fun _ => 0 := funext fun a => by fin_cases a <;> rfl
theorem hz3 : (![0, 0, 0] : Fin 3 → Nat) = fun _ => 0 := funext fun a => by fin_cases a <;> rfl

theorem blk0 (t : Fin cfg0.N) (r : Fin 512) (e : Fin 1024) : iblk m c 0 t (ix3 0 r e) = m ((c : Thread nD τ).loc main_arg0) (ix3 (bat t) (tok t r) e) :=
  (congrArg (V m c main_arg0) (emb_tok t r e)).trans (congrFun (V_main_arg0 m c) _)
theorem blk1 (t : Fin cfg0.N) (e : Fin 3072) : iblk m c 1 t (ix3 0 0 e) = m ((c : Thread nD τ).loc main_arg1) (ix2 (bat t) e) :=
  (congrArg (V m c main_v4) (emb_mod t e)).trans (V_v4 m c _ e)
theorem blk2 (t : Fin cfg0.N) (r : Fin 512) (e : Fin 1024) : iblk m c 2 t (ix3 0 r e) = m ((c : Thread nD τ).loc main_arg2) (ix3 (bat t) (tok t r) e) :=
  (congrArg (V m c main_v5) (emb_tok t r e)).trans (congrFun (V_v5 m c) _)
theorem blk3 (t : Fin cfg0.N) (r : Fin 512) (e : Fin 1024) : iblk m c 3 t (ix3 0 r e) = m ((c : Thread nD τ).loc main_arg3) (ix3 (bat t) (tok t r) e) :=
  (congrArg (V m c main_v6) (emb_tok t r e)).trans (congrFun (V_v6 m c) _)
theorem blk4 (t : Fin cfg0.N) (r : Fin 512) (e : Fin 1024) : iblk m c 4 t (ix3 0 r e) = logis (m ((c : Thread nD τ).loc main_arg4) (ix3 (bat t) (tok t r) e)) :=
  (congrArg (V m c main_v13) (emb_tok t r e)).trans (V_v13 m c _)
theorem blk5 (t : Fin cfg0.N) (r : Fin 512) (e : Fin 1024) : iblk m c 5 t (ix3 0 r e) = logis (m ((c : Thread nD τ).loc main_arg5) (ix3 (bat t) (tok t r) e)) :=
  (congrArg (V m c main_v20) (emb_tok t r e)).trans (V_v20 m c _)
theorem blk6 (t : Fin cfg0.N) (w d : Fin 1024) : iblk m c 6 t (ix2 w d) = m ((c : Thread nD τ).loc main_arg6) (ix2 w d) :=
  (congrArg (V m c main_v0) (emb_mat t _)).trans (congrFun (V_v0 m c) _)
theorem blk7 (t : Fin cfg0.N) (w d : Fin 1024) : iblk m c 7 t (ix2 w d) = m ((c : Thread nD τ).loc main_arg7) (ix2 w d) :=
  (congrArg (V m c main_v1) (emb_mat t _)).trans (congrFun (V_v1 m c) _)
theorem blk8 (t : Fin cfg0.N) (w d : Fin 1024) : iblk m c 8 t (ix2 w d) = m ((c : Thread nD τ).loc main_arg8) (ix2 w d) :=
  (congrArg (V m c main_v2) (emb_mat t _)).trans (congrFun (V_v2 m c) _)
theorem blk9 (t : Fin cfg0.N) (e : Fin 1024) : iblk m c 9 t (ix2 0 e) = m ((c : Thread nD τ).loc main_arg9) (ix1 e) :=
  (congrArg (V m c main_v3) (emb_vec t _)).trans (V_v3 m c e)

/-- What a point writes back is its block of the output array. -/
theorem flushed_eq (t : Fin cfg0.N) :
    (dats m 0 c).flushed 10 t = (win0_10.blk t).view.read (Elt Ideal) (outArr m c) := by
  rw [Value.flushed10]
  unfold out0_10
  rw [View.canon_unit_zero hz3]
  rw [View.ld_unit_zero hz3, View.ld_unit_zero hz3, View.ld_unit_zero hz2, View.ld_unit_zero hz2, View.ld_unit_zero hz3,
    View.ld_unit_zero hz3, View.ld_unit_zero hz2, View.ld_unit_zero hz3, View.ld_unit_zero hz3, View.ld_unit_zero hz2]
  refine funext fun y => ?_
  obtain ⟨r, e, rfl⟩ : ∃ (r : Fin 512) (e : Fin 1024), y = (ix3 0 r e : S1x512x1024.Idx) :=
    ⟨y 1, y 2, funext fun a => match a with | ⟨0, _⟩ => Subsingleton.elim (α := Fin 1) _ _ | ⟨1, _⟩ => rfl | ⟨2, _⟩ => rfl⟩
  refine (pay_apply _ _ _ _ _ _ _ _ _ _ r e).trans ?_
  have hr : (win0_10.blk t).view.read (Elt Ideal) (outArr m c) (ix3 0 r e) = out m c (bat t) (tok t r) e :=
    congrArg (outArr m c) (emb_tok t r e)
  exact (row_congr (blk0 m c t r) (fun e => blk1 m c t _) (blk9 m c t) (blk4 m c t r) (blk5 m c t r) (blk2 m c t r) (blk3 m c t r)
    (blk6 m c t) (blk7 m c t) (blk8 m c t) e).trans hr.symm

/-- Every index of the output array is in the block of its batch and token tile. -/
theorem cover (i : S16x4096x1024.Idx) :
    ∃ t : Fin cfg0.N, (cfg0.win 10).flush t = true ∧ i ∈ ((cfg0.win 10).blk t).view.set := by
  have hb : (i 0).val < 16 := (i 0).isLt
  have hs : (i 1).val < 4096 := (i 1).isLt
  have he : (i 2).val < 1024 := (i 2).isLt
  obtain ⟨t, ht⟩ : ∃ t : Fin grid0.N, t.val = (i 0).val * 8 + (i 1).val / 512 :=
    ⟨⟨(i 0).val * 8 + (i 1).val / 512, by show _ < 128; omega⟩, rfl⟩
  have hi : i = (win0_0.rect t).emb (ix3 0 ⟨(i 1).val % 512, by omega⟩ ⟨(i 2).val, he⟩) := by
    rw [emb_tok]
    refine funext fun a => Fin.ext ?_
    match a with
    | ⟨0, _⟩ => show (i 0).val = t.val / 8; omega
    | ⟨1, _⟩ => show (i 1).val = t.val % 8 * 512 + (i 1).val % 512; omega
    | ⟨2, _⟩ => rfl
  refine ⟨t, flush0_10 _, ?_⟩
  rw [hi]
  exact ((cfg0.win 10).blk t).view.emb_mem_set _

/-- After the run the output array is the layer's output. -/
theorem final : (dats m 0 c).arrAt 10 cfg0.N = outArr m c :=
  (dats m 0 c).arrAt_eq_of_cover 10 (outArr m c) (fun t _ => flushed_eq m c t) cover

end Cert.Kernel2Ideal.RefValue

namespace Cert.Proof

open Cert.Kernel2Ideal.RefValue Cert.OutSpec

theorem outproj : Cert.algebraic_Kernel2Ideal_Reference2Ideal
    (hKernel2Ideal := Cert.Kernel2Ideal.Gen.facts) (hReference2Ideal := Cert.Reference2Ideal.Gen.facts) := by
  intro m g m' g' _ hargs
  refine ⟨fun c => outArr m c, ?_, ?_⟩
  · exact (θ_run _ _ _).mono (fun r h c => ⟨(h c).1.trans (final m c), (h c).2⟩) (Cert.Kernel2Ideal.Value.run_blocks (F := Ideal) m g)
  · refine (θ_run _ _ _).mono (fun r h c => ⟨(h c).1.trans ?_, (h c).2⟩) (Cert.Reference2Ideal.Value.run (F := Ideal) m' g')
    obtain ⟨h0, h1, h2, h3, h4, h5, h6, h7, h8, h9⟩ := hargs c
    rw [h0, h1, h2, h3, h4, h5, h6, h7, h8, h9]
    refine funext fun i => ?_
    show _ = out m c (i 0) (i 1) (i 2)
    unfold out gatedRow proj merged logis
    pointwise

end Cert.Proof
-- ==== Proof.Modulation.lean ====
module

public import proofs.«01_k».proof.Defs
public import proofs.«01_k».proof.Proof.Gen.Kernel3Ideal.Value
public import proofs.«01_k».proof.Proof.Gen.Reference3Ideal.Run
public import Idealize.ShloMosaic.Lib.Pointwise

@[expose] public section

noncomputable section

open Idealize.ShloMosaic Idealize.ShloMosaic.TcCoe Idealize.SL.Sem
open Idealize.ShloMosaic.Pipeline (Dat)

/-! ## The adaLN modulation -/

namespace Cert.ModSpec

/-- The logistic function. -/
abbrev logis (x : EReal) : EReal := Ideal.div 1 (1 + Ideal.exp (-x))

/-- One entry of a modulation: the conditioning row through silu, times a column, and the bias. -/
def entry (x w : Fin 1024 → EReal) (b : EReal) : EReal := (∑ d, x d * logis (x d) * w d) + b

theorem entry_congr {x x' w w' : Fin 1024 → EReal} {b b' : EReal} (hx : ∀ d, x d = x' d) (hw : ∀ d, w d = w' d) (hb : b = b') :
    entry x w b = entry x' w' b' := by
  obtain rfl := funext hx
  obtain rfl := funext hw
  obtain rfl := hb
  rfl

end Cert.ModSpec

namespace Cert.Kernel3Ideal.RefValue

open Cert.Kernel3Ideal Cert.Kernel3Ideal.Gen Cert.ModSpec

theorem pay_apply (P0 : Vec Ideal S48x1024 .f32) (P1 : Vec Ideal S1x1024x1024 .f32) (P2 : Vec Ideal S1x1x1024 .f32)
    (r : Fin 48) (e : Fin 1024) :
    k0_pay1 P0 P1 P2 (ix3 0 r e) = entry (fun d => P0 (ix2 r d)) (fun d => P1 (ix3 0 d e)) (P2 (ix3 0 0 e)) := by
  pointwise [k0_pay1, entry]
  rfl

variable (m : (ℓ : Loc nD τ sig) → Buf (Elt Ideal) ℓ) (c : Dev nD)

/-- The block index of each window: the rows whole, and by layer and third of the channels. -/
theorem idx_facts : ∀ t : Fin grid0.N, win0_0.index t = ![0, 0] ∧ win0_1.index t = ![t.val / 3, 0, t.val % 3]
    ∧ win0_2.index t = ![t.val / 3, 0, t.val % 3] ∧ win0_3.index t = ![t.val / 3, 0, t.val % 3] := by
  decide +kernel

/-- The layer of a point, and the channel of column `e` of its block. -/
abbrev lay (t : Fin grid0.N) : Fin 2 := ⟨t.val / 3, by have h : t.val < 6 := t.isLt; omega⟩
abbrev chan (t : Fin grid0.N) (e : Fin 1024) : Fin 3072 := ⟨t.val % 3 * 1024 + e.val, by omega⟩

theorem emb_rows (t : Fin grid0.N) (y : S48x1024.Idx) : ((win0_0.rect t).emb y : S48x1024.Idx) = y := by
  refine funext fun a => Fin.ext (win0_0.rect_emb_val_of_index_zero t a ?_ y)
  rw [(idx_facts t).1]
  match a with
  | ⟨0, _⟩ => rfl
  | ⟨1, _⟩ => rfl

theorem emb_w (t : Fin grid0.N) (d e : Fin 1024) :
    ((win0_1.rect t).emb (ix3 0 d e) : S2x1024x3072.Idx) = ix3 (lay t) d (chan t e) := by
  refine funext fun a => Fin.ext ?_
  refine (win0_1.rect_emb_val t (ix3 0 d e) a).trans ?_
  rw [(idx_facts t).2.1]
  match a with
  | ⟨0, _⟩ => show t.val / 3 * 1 + 0 = t.val / 3; omega
  | ⟨1, _⟩ => show 0 * 1024 + d.val = d.val; omega
  | ⟨2, _⟩ => rfl

theorem emb_b (t : Fin grid0.N) (e : Fin 1024) :
    ((win0_2.rect t).emb (ix3 0 0 e) : S2x1x3072.Idx) = ix3 (lay t) 0 (chan t e) := by
  refine funext fun a => Fin.ext ?_
  refine (win0_2.rect_emb_val t (ix3 0 0 e) a).trans ?_
  rw [(idx_facts t).2.2.1]
  match a with
  | ⟨0, _⟩ => show t.val / 3 * 1 + 0 = t.val / 3; omega
  | ⟨1, _⟩ => rfl
  | ⟨2, _⟩ => rfl

theorem emb_out (t : Fin grid0.N) (r : Fin 48) (e : Fin 1024) :
    ((win0_3.rect t).emb (ix3 0 r e) : S2x48x3072.Idx) = ix3 (lay t) r (chan t e) := by
  refine funext fun a => Fin.ext ?_
  refine (win0_3.rect_emb_val t (ix3 0 r e) a).trans ?_
  rw [(idx_facts t).2.2.2]
  match a with
  | ⟨0, _⟩ => show t.val / 3 * 1 + 0 = t.val / 3; omega
  | ⟨1, _⟩ => show 0 * 48 + r.val = r.val; omega
  | ⟨2, _⟩ => rfl

/-- The conditioning row `r` of both batches: the prompt's sixteen, then the sample's. -/
def row (r : Fin 48) (d : Fin 1024) : EReal :=
  if h : r.val < 16 then m ((c : Thread nD τ).loc main_arg0) (ix2 ⟨r.val, h⟩ d)
  else m ((c : Thread nD τ).loc main_arg1) (ix2 ⟨r.val - 16, by omega⟩ d)

theorem cat_lt (a : S16x1024.Idx → EReal) (b : S32x1024.Idx → EReal) (h : Shape.Concatenates [S16x1024, S32x1024] S48x1024 0)
    (r : Fin 48) (d : Fin 1024) (hr : r.val < 16) :
    concatenate S48x1024 0 [⟨S16x1024, a⟩, ⟨S32x1024, b⟩] h (ix2 r d) = a (ix2 ⟨r.val, hr⟩ d) :=
  concatenate_pair_apply_left (t := S48x1024) (s₁ := S16x1024) (s₂ := S32x1024) 0 a b h (ix2 r d) rfl (ix2 ⟨r.val, hr⟩ d)
    fun x => match x with | ⟨0, _⟩ => rfl | ⟨1, _⟩ => rfl

theorem cat_ge (a : S16x1024.Idx → EReal) (b : S32x1024.Idx → EReal) (h : Shape.Concatenates [S16x1024, S32x1024] S48x1024 0)
    (r : Fin 48) (d : Fin 1024) (hr : ¬ r.val < 16) :
    concatenate S48x1024 0 [⟨S16x1024, a⟩, ⟨S32x1024, b⟩] h (ix2 r d) = b (ix2 ⟨r.val - 16, by omega⟩ d) :=
  concatenate_pair_apply_right (t := S48x1024) (s₁ := S16x1024) (s₂ := S32x1024) 0 a b h (ix2 r d) rfl rfl
    (ix2 ⟨r.val - 16, by omega⟩ d) (fun x hx => match x, hx with | ⟨0, _⟩, hx => absurd rfl hx | ⟨1, _⟩, _ => rfl)
    (show r.val - 16 + 16 = r.val by omega)

theorem V_v0 (r : Fin 48) (d : Fin 1024) : V m c main_v0 (ix2 r d) = row m c r d := by
  have h : V m c main_v0 = concatenate S48x1024 0 [⟨S16x1024, m ((c : Thread nD τ).loc main_arg0)⟩,
      ⟨S32x1024, m ((c : Thread nD τ).loc main_arg1)⟩] concatenates_S16x1024_S32x1024_S48x1024_d0 := by
    unfold V hostOps0; after_results_simp
  rw [h]
  unfold row
  split
  · next hr => exact cat_lt _ _ _ r d hr
  · next hr => exact cat_ge _ _ _ r d hr

theorem V_v1 (l : Fin 2) (e : Fin 3072) : V m c main_v1 (ix3 l 0 e) = m ((c : Thread nD τ).loc main_arg3) (ix2 l e) := by
  have h : V m c main_v1 = shapeCast S2x1x3072 (m ((c : Thread nD τ).loc main_arg3)) shapeCasts_S2x3072_S2x1x3072 := by
    unfold V hostOps0; after_results_simp; rfl
  rw [h]
  generalize m ((c : Thread nD τ).loc main_arg3) = a
  match l with
  | ⟨0, _⟩ => set_option maxRecDepth 16384 in pointwise
  | ⟨1, _⟩ => set_option maxRecDepth 16384 in pointwise

/-- The modulation of layer `l`, row `r`, channel `e`, from the argument arrays. -/
def out (l : Fin 2) (r : Fin 48) (e : Fin 3072) : EReal :=
  entry (row m c r) (fun d => m ((c : Thread nD τ).loc main_arg2) (ix3 l d e)) (m ((c : Thread nD τ).loc main_arg3) (ix2 l e))

/-- The output array. -/
def outArr : Buf (Elt Ideal) ((c : Thread nD τ).loc main_v2) := fun i : S2x48x3072.Idx => out m c (i 0) (i 1) (i 2)

theorem hz2 : (![0, 0] : Fin 2 → Nat) = fun _ => 0 := funext fun a => by fin_cases a <;> rfl
theorem hz3 : (![0, 0, 0] : Fin 3 → Nat) = fun _ => 0 := funext fun a => by fin_cases a <;> rfl

theorem blk0 (t : Fin cfg0.N) (r : Fin 48) (d : Fin 1024) : iblk m c 0 t (ix2 r d) = row m c r d :=
  (congrArg (V m c main_v0) (emb_rows t _)).trans (V_v0 m c r d)
theorem blk1 (t : Fin cfg0.N) (d e : Fin 1024) :
    iblk m c 1 t (ix3 0 d e) = m ((c : Thread nD τ).loc main_arg2) (ix3 (lay t) d (chan t e)) :=
  (congrArg (V m c main_arg2) (emb_w t d e)).trans (congrFun (V_main_arg2 m c) _)
theorem blk2 (t : Fin cfg0.N) (e : Fin 1024) :
    iblk m c 2 t (ix3 0 0 e) = m ((c : Thread nD τ).loc main_arg3) (ix2 (lay t) (chan t e)) :=
  (congrArg (V m c main_v1) (emb_b t e)).trans (V_v1 m c _ _)

set_option maxHeartbeats 4000000 in
/-- What a point writes back is its block of the output array. -/
theorem flushed_eq (t : Fin cfg0.N) :
    (dats m 0 c).flushed 3 t = (win0_3.blk t).view.read (Elt Ideal) (outArr m c) := by
  rw [Value.flushed3]
  unfold out0_3
  rw [View.canon_unit_zero hz3]
  rw [View.ld_unit_zero hz2, View.ld_unit_zero hz3, View.ld_unit_zero hz3]
  refine funext fun y => ?_
  obtain ⟨r, e, rfl⟩ : ∃ (r : Fin 48) (e : Fin 1024), y = (ix3 0 r e : S1x48x1024.Idx) :=
    ⟨y 1, y 2, funext fun a => match a with | ⟨0, _⟩ => Subsingleton.elim (α := Fin 1) _ _ | ⟨1, _⟩ => rfl | ⟨2, _⟩ => rfl⟩
  refine (pay_apply _ _ _ r e).trans ?_
  have hr : (win0_3.blk t).view.read (Elt Ideal) (outArr m c) (ix3 0 r e) = out m c (lay t) r (chan t e) :=
    congrArg (outArr m c) (emb_out t r e)
  exact (entry_congr (blk0 m c t r) (fun d => blk1 m c t d e) (blk2 m c t e)).trans hr.symm

/-- Every index of the output array is in the block of its layer and third of the channels. -/
theorem cover (i : S2x48x3072.Idx) :
    ∃ t : Fin cfg0.N, (cfg0.win 3).flush t = true ∧ i ∈ ((cfg0.win 3).blk t).view.set := by
  have hl : (i 0).val < 2 := (i 0).isLt
  have hr : (i 1).val < 48 := (i 1).isLt
  have he : (i 2).val < 3072 := (i 2).isLt
  obtain ⟨t, ht⟩ : ∃ t : Fin grid0.N, t.val = (i 0).val * 3 + (i 2).val / 1024 :=
    ⟨⟨(i 0).val * 3 + (i 2).val / 1024, by show _ < 6; omega⟩, rfl⟩
  have hi : i = (win0_3.rect t).emb (ix3 0 ⟨(i 1).val, hr⟩ ⟨(i 2).val % 1024, by omega⟩) := by
    rw [emb_out]
    refine funext fun a => Fin.ext ?_
    match a with
    | ⟨0, _⟩ => show (i 0).val = t.val / 3; omega
    | ⟨1, _⟩ => rfl
    | ⟨2, _⟩ => show (i 2).val = t.val % 3 * 1024 + (i 2).val % 1024; omega
  refine ⟨t, flush0_3 _, ?_⟩
  rw [hi]
  exact ((cfg0.win 3).blk t).view.emb_mem_set _

/-- After the run the output array is the modulation. -/
theorem final : (dats m 0 c).arrAt 3 cfg0.N = outArr m c :=
  (dats m 0 c).arrAt_eq_of_cover 3 (outArr m c) (fun t _ => flushed_eq m c t) cover

end Cert.Kernel3Ideal.RefValue

namespace Cert.Proof

open Cert.Kernel3Ideal.RefValue Cert.ModSpec

section

open Cert.Reference3Ideal

theorem cat3_lt (a : S2x16x3072.Idx → EReal) (b : S2x32x3072.Idx → EReal)
    (h : Shape.Concatenates [S2x16x3072, S2x32x3072] S2x48x3072 1) (l : Fin 2) (k : Fin 48) (e : Fin 3072) (hk : k.val < 16) :
    concatenate S2x48x3072 1 [⟨S2x16x3072, a⟩, ⟨S2x32x3072, b⟩] h (ix3 l k e) = a (ix3 l ⟨k.val, hk⟩ e) :=
  concatenate_pair_apply_left (t := S2x48x3072) (s₁ := S2x16x3072) (s₂ := S2x32x3072) 1 a b h (ix3 l k e) rfl
    (ix3 l ⟨k.val, hk⟩ e) fun x => match x with | ⟨0, _⟩ => rfl | ⟨1, _⟩ => rfl | ⟨2, _⟩ => rfl

theorem cat3_ge (a : S2x16x3072.Idx → EReal) (b : S2x32x3072.Idx → EReal)
    (h : Shape.Concatenates [S2x16x3072, S2x32x3072] S2x48x3072 1) (l : Fin 2) (k : Fin 48) (e : Fin 3072) (hk : ¬ k.val < 16) :
    concatenate S2x48x3072 1 [⟨S2x16x3072, a⟩, ⟨S2x32x3072, b⟩] h (ix3 l k e) = b (ix3 l ⟨k.val - 16, by omega⟩ e) :=
  concatenate_pair_apply_right (t := S2x48x3072) (s₁ := S2x16x3072) (s₂ := S2x32x3072) 1 a b h (ix3 l k e) rfl rfl
    (ix3 l ⟨k.val - 16, by omega⟩ e)
    (fun x hx => match x, hx with | ⟨0, _⟩, _ => rfl | ⟨1, _⟩, hx => absurd rfl hx | ⟨2, _⟩, _ => rfl)
    (show k.val - 16 + 16 = k.val by omega)

end

theorem modulation : Cert.algebraic_Kernel3Ideal_Reference3Ideal
    (hKernel3Ideal := Cert.Kernel3Ideal.Gen.facts) (hReference3Ideal := Cert.Reference3Ideal.Gen.facts) := by
  intro m g m' g' _ hargs
  refine ⟨fun c => outArr m c, ?_, ?_⟩
  · exact (θ_run _ _ _).mono (fun r h c => ⟨(h c).1.trans (final m c), (h c).2⟩) (Cert.Kernel3Ideal.Value.run_blocks (F := Ideal) m g)
  · refine (θ_run _ _ _).mono (fun r h c => ⟨(h c).1.trans ?_, (h c).2⟩) (Cert.Reference3Ideal.Value.run (F := Ideal) m' g')
    obtain ⟨h0, h1, h2, h3⟩ := hargs c
    rw [h0, h1, h2, h3]
    refine funext fun i => ?_
    obtain ⟨l, k, e, rfl⟩ : ∃ (l : Fin 2) (k : Fin 48) (e : Fin 3072), i = (ix3 l k e : Cert.Kernel3Ideal.S2x48x3072.Idx) :=
      ⟨i 0, i 1, i 2, funext fun a => match a with | ⟨0, _⟩ => rfl | ⟨1, _⟩ => rfl | ⟨2, _⟩ => rfl⟩
    show _ = out m c l k e
    unfold out
    by_cases hk : k.val < 16
    · refine (cat3_lt _ _ _ l k e hk).trans ?_
      have hrow : row m c k = fun d => m ((c : Thread Cert.Kernel3Ideal.nD Cert.Kernel3Ideal.τ).loc Cert.Kernel3Ideal.main_arg0) (ix2 ⟨k.val, hk⟩ d) :=
        funext fun d => dif_pos hk
      rw [hrow]
      generalize (⟨k.val, hk⟩ : Fin 16) = q
      unfold entry logis
      pointwise
      exact congrArg (· + _) (Finset.sum_congr rfl fun d _ => mul_comm _ _)
    · refine (cat3_ge _ _ _ l k e hk).trans ?_
      have hrow : row m c k = fun d => m ((c : Thread Cert.Kernel3Ideal.nD Cert.Kernel3Ideal.τ).loc Cert.Kernel3Ideal.main_arg1) (ix2 ⟨k.val - 16, by omega⟩ d) :=
        funext fun d => dif_neg hk
      rw [hrow]
      generalize (⟨k.val - 16, _⟩ : Fin 32) = q
      unfold entry logis
      pointwise
      exact congrArg (· + _) (Finset.sum_congr rfl fun d _ => mul_comm _ _)

end Cert.Proof
-- ==== Proof.Softmax.lean ====
/- The scalar mathematics of a softmax taken tile by tile (running maximum, running sum, running weighted sum),
   over the extended reals, against the softmax taken at once. -/
module

public import Idealize.ShloMosaic.PureOps.Ideal

@[expose] public section

noncomputable section

namespace Cert.Softmax

open Idealize.ShloMosaic

/-- The weight `2^x` of a score, zero for the score `-∞`. -/
def pw (x : EReal) : ℝ := if x = ⊥ then 0 else (2 : ℝ) ^ x.toReal

/-- The weight `e^y` of a score, zero for the score `-∞`. -/
def ew (y : EReal) : ℝ := if y = ⊥ then 0 else Real.exp y.toReal

theorem pw_nonneg (x : EReal) : 0 ≤ pw x := by
  unfold pw; split
  · exact le_refl _
  · positivity

theorem pw_pos {x : EReal} (h : x ≠ ⊥) : 0 < pw x := by
  unfold pw; rw [if_neg h]; positivity

theorem ew_nonneg (x : EReal) : 0 ≤ ew x := by
  unfold ew; split
  · exact le_refl _
  · positivity

theorem ew_pos {x : EReal} (h : x ≠ ⊥) : 0 < ew x := by
  unfold ew; rw [if_neg h]; positivity

@[simp] theorem pw_bot : pw ⊥ = 0 := by simp [pw]
@[simp] theorem ew_bot : ew ⊥ = 0 := by simp [ew]
theorem pw_coe (r : ℝ) : pw (r : EReal) = (2 : ℝ) ^ r := by simp [pw]
theorem ew_coe (r : ℝ) : ew (r : EReal) = Real.exp r := by simp [ew]

/-- The base two weight of a score times `log₂ e` is the natural weight of the score. -/
theorem pw_log2e (r : ℝ) : pw ((r * (Real.log 2)⁻¹ : ℝ) : EReal) = ew (r : EReal) := by
  rw [pw_coe, ew_coe, Real.rpow_def_of_pos (by norm_num)]
  congr 1
  have : Real.log 2 ≠ 0 := (Real.log_pos (by norm_num)).ne'
  field_simp

/-- A score less a finite shift, exponentiated in base two. -/
theorem exp2_sub {x : EReal} (hx : x ≠ ⊤) (M : ℝ) :
    Ideal.exp2 (x - (M : EReal)) = ((pw x * (2 : ℝ) ^ (-M) : ℝ) : EReal) := by
  induction x with
  | bot => simp
  | top => exact absurd rfl hx
  | coe r =>
    rw [← EReal.coe_sub, Ideal.exp2_coe, pw_coe]
    congr 1
    show (2 : ℝ) ^ (r - M) = _
    rw [sub_eq_add_neg, Real.rpow_add (by norm_num)]

/-- A score less a finite shift, exponentiated. -/
theorem exp_sub {x : EReal} (hx : x ≠ ⊤) (M : ℝ) :
    Ideal.exp (x - (M : EReal)) = ((ew x * Real.exp (-M) : ℝ) : EReal) := by
  induction x with
  | bot => simp
  | top => exact absurd rfl hx
  | coe r =>
    rw [← EReal.coe_sub, Ideal.exp_coe, ew_coe, ← Real.exp_add]
    rfl

theorem coe_sum {ι : Type*} (s : Finset ι) (f : ι → ℝ) :
    ((∑ k ∈ s, f k : ℝ) : EReal) = ∑ k ∈ s, (f k : EReal) := by
  classical
  induction s using Finset.induction_on with
  | empty => simp
  | insert a t ha ih => rw [Finset.sum_insert ha, Finset.sum_insert ha, EReal.coe_add, ih]

/-- The running state (maximum `m`, sum `l`, weighted sum `a`) after the scores of total weight `L` and weighted
total `A`: nothing seen yet, or a finite maximum with both sums scaled by `2^(-m)`. -/
def Running (m l a : EReal) (L A : ℝ) : Prop :=
  (m = ⊥ ∧ l = 0 ∧ a = 0 ∧ L = 0 ∧ A = 0) ∨
    ∃ M : ℝ, m = (M : EReal) ∧ l = ((L * (2 : ℝ) ^ (-M) : ℝ) : EReal) ∧ a = ((A * (2 : ℝ) ^ (-M) : ℝ) : EReal)

theorem Running.start : Running ⊥ 0 0 0 0 := .inl ⟨rfl, rfl, rfl, rfl, rfl⟩

theorem Running.max_real {m l a : EReal} {L A : ℝ} (h : Running m l a L A) (t : ℝ) :
    ∃ M : ℝ, max m (t : EReal) = (M : EReal) := by
  rcases h with ⟨rfl, -⟩ | ⟨M, rfl, -⟩
  · exact ⟨t, by simp⟩
  · exact ⟨max M t, by
      rcases le_total M t with h | h
      · rw [max_eq_right h, max_eq_right (EReal.coe_le_coe_iff.2 h)]
      · rw [max_eq_left h, max_eq_left (EReal.coe_le_coe_iff.2 h)]⟩

/-- One tile of scores `s` with values `v` taken into the running state. -/
theorem Running.step {ι : Type*} [Fintype ι] {m l a : EReal} {L A : ℝ} (h : Running m l a L A)
    (s : ι → EReal) (v : ι → ℝ) (hs : ∀ r, s r ≠ ⊤) {t : ℝ} {m' : EReal} (hm : m' = max m (t : EReal)) :
    Running m'
      (Ideal.exp2 (m - m') * l + ∑ r, Ideal.exp2 (s r - m'))
      (a * Ideal.exp2 (m - m') + ∑ r, (v r : EReal) * Ideal.exp2 (s r - m'))
      (L + ∑ r, pw (s r)) (A + ∑ r, v r * pw (s r)) := by
  obtain ⟨M', hM'⟩ := h.max_real t
  rw [hM'] at hm
  subst hm
  refine .inr ⟨M', rfl, ?_⟩
  have e1 : ∀ r, Ideal.exp2 (s r - (M' : EReal)) = ((pw (s r) * (2 : ℝ) ^ (-M') : ℝ) : EReal) :=
    fun r => exp2_sub (hs r) M'
  simp only [e1]
  have e2 : ∀ r, (v r : EReal) * ((pw (s r) * (2 : ℝ) ^ (-M') : ℝ) : EReal)
      = ((v r * (pw (s r) * (2 : ℝ) ^ (-M')) : ℝ) : EReal) := fun r => (EReal.coe_mul _ _).symm
  simp only [e2, ← coe_sum]
  rcases h with ⟨rfl, rfl, rfl, rfl, rfl⟩ | ⟨M, rfl, rfl, rfl⟩
  · constructor
    · simp [Finset.sum_mul]
    · simp [Finset.sum_mul, mul_assoc]
  · have e3 : Ideal.exp2 ((M : EReal) - (M' : EReal)) = (((2 : ℝ) ^ (M - M') : ℝ) : EReal) := by
      rw [← EReal.coe_sub, Ideal.exp2_coe]; rfl
    have e4 : (2 : ℝ) ^ (M - M') * (2 : ℝ) ^ (-M) = (2 : ℝ) ^ (-M') := by
      rw [← Real.rpow_add (by norm_num)]; congr 1; ring
    rw [e3, ← EReal.coe_mul, ← EReal.coe_mul, ← EReal.coe_add, ← EReal.coe_add]
    constructor
    · congr 1
      rw [add_mul, Finset.sum_mul, ← e4]; ring
    · congr 1
      rw [add_mul, Finset.sum_mul, ← e4]
      simp only [mul_assoc]; ring

/-- The running state's quotient: the weighted total over the total. -/
theorem Running.quot {m l a : EReal} {L A : ℝ} (h : Running m l a L A) (hL : 0 < L) :
    a * Ideal.div 1 l = ((A / L : ℝ) : EReal) := by
  rcases h with ⟨-, -, -, rfl, -⟩ | ⟨M, rfl, rfl, rfl⟩
  · exact absurd hL (lt_irrefl _)
  · have hp : (0 : ℝ) < (2 : ℝ) ^ (-M) := by positivity
    rw [Ideal.div_coe (mul_pos hL hp).ne', one_mul, ← EReal.coe_mul]
    congr 1
    field_simp

/-- The softmax taken at once: the weights `exp (y - Y)` over their sum, summed against the values. -/
theorem softmax_at_once {ι : Type*} [Fintype ι] (y : ι → EReal) (v : ι → ℝ) (hy : ∀ k, y k ≠ ⊤)
    (hpos : 0 < ∑ k, ew (y k)) (Y : ℝ) :
    ∑ k, Ideal.div (Ideal.exp (y k - (Y : EReal))) (∑ j, Ideal.exp (y j - (Y : EReal))) * (v k : EReal)
      = (((∑ k, v k * ew (y k)) / (∑ k, ew (y k)) : ℝ) : EReal) := by
  have e1 : ∀ r, Ideal.exp (y r - (Y : EReal)) = ((ew (y r) * Real.exp (-Y) : ℝ) : EReal) :=
    fun r => exp_sub (hy r) Y
  simp only [e1, ← coe_sum]
  rw [← Finset.sum_mul]
  have hp : 0 < Real.exp (-Y) := Real.exp_pos _
  have hne := (mul_pos hpos hp).ne'
  simp only [Ideal.div_coe hne, ← EReal.coe_mul, ← coe_sum]
  congr 1
  rw [Finset.sum_div]
  refine Finset.sum_congr rfl fun k _ => ?_
  field_simp

/-- The greatest of finitely many scores, none `+∞` and one above `-∞`, is a real number. -/
theorem sup_real {ι : Type*} (s : Finset ι) (y : ι → EReal) (hy : ∀ k ∈ s, y k ≠ ⊤) {k : ι} (hk : k ∈ s)
    (h : y k ≠ ⊥) : ∃ Y : ℝ, s.sup y = (Y : EReal) := by
  have h1 : s.sup y ≠ ⊤ := by
    have := (Finset.sup_lt_iff (s := s) (f := y) (a := ⊤) (by simp)).2 fun b hb => lt_top_iff_ne_top.2 (hy b hb)
    exact this.ne
  have h2 : s.sup y ≠ ⊥ := fun hb => h (le_bot_iff.1 (hb ▸ Finset.le_sup hk))
  exact ⟨(s.sup y).toReal, (EReal.coe_toReal h1 h2).symm⟩

end Cert.Softmax

end
-- ==== Proof.KernelIdeal.Step.lean ====
/- One key tile of one head: the running maximum, the running sum and the running weighted sum, read at an index. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Att

open Cert.KernelIdeal Cert.KernelIdeal.Gen Cert.Softmax
open Idealize.ShloMosaic Idealize.ShloMosaic.TcCoe

/-- The scores of a tile of keys against a tile of queries. -/
def sc (k q : Vec Ideal S1x1x512x256 .bf16) : FVec Ideal S1x512x512 .f32 := k0_pay2 k q

/-- A stored score tile as a matrix. -/
def mat (s : Vec Ideal S1x512x512 .f32) : FVec Ideal S512x512 .f32 := shapeCast S512x512 s shapeCasts_S1x512x512_S512x512

/-- The new running maximum. -/
def mx (s : FVec Ideal S512x512 .f32) (m : Vec Ideal S1x1x512 .f32) : FVec Ideal S1x512 .f32 :=
  maximumf (shapeCast S1x512 m shapeCasts_S1x1x512_S1x512)
    (shapeCast S1x512 (multiReduction .maximumf [0] S512 s 0xFF800000#32 reduces_S512x512_S512 (.inl rfl) rfl) shapeCasts_S512_S1x512)

/-- The powers of the tile's scores. -/
def ex (s : FVec Ideal S512x512 .f32) (m : Vec Ideal S1x1x512 .f32) : FVec Ideal S512x512 .f32 :=
  exp2 (subf s (broadcastTo S512x512 (mx s m) broadcasts_S1x512_S512x512))

/-- The factor by which what was summed is rescaled. -/
def al (s : FVec Ideal S512x512 .f32) (m : Vec Ideal S1x1x512 .f32) : FVec Ideal S1x512 .f32 :=
  exp2 (subf (shapeCast S1x512 m shapeCasts_S1x1x512_S1x512) (mx s m))

/-- The stored running maximum after the tile. -/
def stM (s : FVec Ideal S512x512 .f32) (m : Vec Ideal S1x1x512 .f32) : FVec Ideal S1x1x512 .f32 :=
  shapeCast S1x1x512 (mx s m) shapeCasts_S1x512_S1x1x512

/-- The stored running sum after the tile. -/
def stL (s : FVec Ideal S512x512 .f32) (m l : Vec Ideal S1x1x512 .f32) : FVec Ideal S1x1x512 .f32 :=
  shapeCast S1x1x512 (addf (mulf (al s m) (shapeCast S1x512 l shapeCasts_S1x1x512_S1x512))
    (shapeCast S1x512 (multiReduction .add [0] S512 (ex s m) 0x00000000#32 reduces_S512x512_S512 (.inl rfl) rfl) shapeCasts_S512_S1x512))
    shapeCasts_S1x512_S1x1x512

/-- Two half tiles of values side by side. -/
def vv (a b : Vec Ideal S1x1x1x128x256 .bf16) : FVec Ideal S128x512 .bf16 :=
  concatenate S128x512 1 [⟨S128x256, shapeCast S128x256 a shapeCasts_S1x1x1x128x256_S128x256⟩,
    ⟨S128x256, shapeCast S128x256 b shapeCasts_S1x1x1x128x256_S128x256⟩] concatenates_S128x256_S128x256_S128x512_d1

/-- The stored running weighted sum after the tile. -/
def stA (s : FVec Ideal S512x512 .f32) (m : Vec Ideal S1x1x512 .f32) (a : Vec Ideal S1x128x512 .f32)
    (v : FVec Ideal S128x512 .bf16) : FVec Ideal S1x128x512 .f32 :=
  shapeCast S1x128x512 (addf (mulf (shapeCast S128x512 a shapeCasts_S1x128x512_S128x512)
      (broadcastTo S128x512 (al s m) broadcasts_S1x512_S128x512))
    (matmul dot_S128x512_S512x512_S128x512_1_0_0_1_n_n none v (truncf .bf16 (ex s m) bitsLt_bf16_f32) (constant S128x512 .f32 0x00000000#32)))
    shapeCasts_S128x512_S1x128x512

theorem sc_apply (k q : Vec Ideal S1x1x512x256 .bf16) (r c : Fin 512) :
    mat (sc k q) (ix2 r c) = ∑ d : Fin 256, k (ix4 0 0 r d) * q (ix4 0 0 c d) := by
  pointwise [mat, sc, k0_pay2]

/-- The largest score of a column. -/
def top (s : FVec Ideal S512x512 .f32) (c : Fin 512) : EReal := Finset.univ.sup fun r : Fin 512 => s (ix2 r c)

/-- The word of −∞. -/
theorem ofBits_neg_inf : Ideal.ofBits .f32 0xFF800000#32 = ⊥ := by simp [Ideal.ofBits, Ideal.ieee]

theorem mx_apply (s : FVec Ideal S512x512 .f32) (m : Vec Ideal S1x1x512 .f32) (c : Fin 512) :
    mx s m (ix2 0 c) = max (m (ix3 0 0 c)) (top s c) := by
  pointwise [mx, top]
  rw [ofBits_neg_inf]
  rfl

theorem stM_apply (s : FVec Ideal S512x512 .f32) (m : Vec Ideal S1x1x512 .f32) (c : Fin 512) :
    stM s m (ix3 0 0 c) = mx s m (ix2 0 c) := by
  pointwise [stM]

theorem ex_apply (s : FVec Ideal S512x512 .f32) (m : Vec Ideal S1x1x512 .f32) (r c : Fin 512) :
    ex s m (ix2 r c) = Ideal.exp2 (s (ix2 r c) - mx s m (ix2 0 c)) := by
  pointwise [ex]
  rfl

theorem al_apply (s : FVec Ideal S512x512 .f32) (m : Vec Ideal S1x1x512 .f32) (c : Fin 512) :
    al s m (ix2 0 c) = Ideal.exp2 (m (ix3 0 0 c) - mx s m (ix2 0 c)) := by
  pointwise [al]
  rfl

theorem stL_apply (s : FVec Ideal S512x512 .f32) (m l : Vec Ideal S1x1x512 .f32) (c : Fin 512) :
    stL s m l (ix3 0 0 c) = al s m (ix2 0 c) * l (ix3 0 0 c) + ∑ r : Fin 512, ex s m (ix2 r c) := by
  pointwise [stL]

theorem stA_apply (s : FVec Ideal S512x512 .f32) (m : Vec Ideal S1x1x512 .f32) (a : Vec Ideal S1x128x512 .f32)
    (v : FVec Ideal S128x512 .bf16) (d : Fin 128) (c : Fin 512) :
    stA s m a v (ix3 0 d c) = a (ix3 0 d c) * al s m (ix2 0 c) + ∑ r : Fin 512, v (ix2 d r) * ex s m (ix2 r c) := by
  pointwise [stA]

theorem vv_apply (a b : Vec Ideal S1x1x1x128x256 .bf16) (d : Fin 128) (r : Fin 512) :
    vv a b (ix2 d r) = if h : r.val < 256 then a (ix5 0 0 0 d ⟨r.val, h⟩) else b (ix5 0 0 0 d ⟨r.val - 256, by omega⟩) := by
  pointwise [vv]

/-- What one head's three buffers hold, of the sums over the keys seen so far. -/
def HeadOK (m l : Vec Ideal S1x1x512 .f32) (a : Vec Ideal S1x128x512 .f32) (L : Fin 512 → ℝ) (A : Fin 128 → Fin 512 → ℝ) : Prop :=
  ∀ (d : Fin 128) (c : Fin 512), Running (m (ix3 0 0 c)) (l (ix3 0 0 c)) (a (ix3 0 d c)) (L c) (A d c)

theorem HeadOK.step {m l : Vec Ideal S1x1x512 .f32} {a : Vec Ideal S1x128x512 .f32} {L : Fin 512 → ℝ} {A : Fin 128 → Fin 512 → ℝ}
    (h : HeadOK m l a L A) (s : FVec Ideal S512x512 .f32) (hs : ∀ r c, s (ix2 r c) ≠ ⊤) (hb : ∀ c, ∃ r, s (ix2 r c) ≠ ⊥)
    (v : FVec Ideal S128x512 .bf16) (V : Fin 128 → Fin 512 → ℝ) (hv : ∀ d r, v (ix2 d r) = (V d r : EReal)) :
    HeadOK (stM s m) (stL s m l) (stA s m a v) (fun c => L c + ∑ r : Fin 512, pw (s (ix2 r c)))
      (fun d c => A d c + ∑ r : Fin 512, V d r * pw (s (ix2 r c))) := by
  intro d c
  obtain ⟨r, hr⟩ := hb c
  obtain ⟨t, ht⟩ := sup_real Finset.univ (fun r : Fin 512 => s (ix2 r c)) (fun r _ => hs r c) (Finset.mem_univ r) hr
  have hm : mx s m (ix2 0 c) = max (m (ix3 0 0 c)) (t : EReal) := by rw [mx_apply]; unfold top; rw [ht]
  have := (h d c).step (fun r => s (ix2 r c)) (V d) (fun r => hs r c) hm
  rw [stM_apply, stL_apply, stA_apply, al_apply]
  simp only [ex_apply, hv]
  exact this

end Cert.KernelIdeal.Att

end
-- ==== Proof.KernelIdeal.Trip.lean ====
/- One trip of the loop over key tiles: what it leaves in the four scratch buffers, head by head. -/
module

public import proofs.«01_k».proof.Proof.Gen.KernelIdeal.Loops
public import proofs.«01_k».proof.Proof.KernelIdeal.Step
public import Idealize.ShloMosaic.Lib.WritesUnit

@[expose] public section

set_option maxRecDepth 16384

noncomputable section

namespace Cert.KernelIdeal.Att

open Cert.KernelIdeal Cert.KernelIdeal.Gen Cert.Softmax
open Idealize.ShloMosaic Idealize.ShloMosaic.TcCoe

section Slots

variable {sig : RefSig} {κ : Kind} {sp : Space} {s : Shape} {e : EltTy} {Val : EltTy → Type}

/-- A box read back after it was the last one written. -/
theorem slot_hit (v : View sig κ sp s e) (f : v.ty.Contents Val) {off size : Fin s.rank → ℕ} (inb inb' : ∀ a, off a + size a ≤ s.size a)
    (w : (Rect.unit off size inb).shape.Idx → Val e) (L : List (View.Piece Val s e)) :
    v.readAt Val (Rect.unit off size inb').toLoadRect (v.writes Val f (⟨Rect.unit off size inb, w⟩ :: L)) = w :=
  funext fun x => View.read_writes_cons_emb v f (Rect.unit off size inb) w L x

/-- A box read back after another box was written that is apart from it on an axis. -/
theorem slot_miss (v : View sig κ sp s e) (f : v.ty.Contents Val) {off size off' size' : Fin s.rank → ℕ} (inb : ∀ a, off a + size a ≤ s.size a)
    (inb' : ∀ a, off' a + size' a ≤ s.size a) (w : (Rect.unit off size inb).shape.Idx → Val e) (L : List (View.Piece Val s e))
    (a : Fin s.rank) (h : off' a + size' a ≤ off a ∨ off a + size a ≤ off' a) :
    v.readAt Val (Rect.unit off' size' inb').toLoadRect (v.writes Val f (⟨Rect.unit off size inb, w⟩ :: L))
      = v.readAt Val (Rect.unit off' size' inb').toLoadRect (v.writes Val f L) :=
  funext fun x => View.read_writes_cons_unit_of_not_mem v f inb w L _ rfl a (by
    have hx : ((Rect.unit off' size' inb').emb x a).val = off' a + 1 * (x a).val := rfl
    have hl : (x a).val < size' a := (x a).isLt
    show ((Rect.unit off' size' inb').emb x a).val < off a ∨ off a + size a ≤ ((Rect.unit off' size' inb').emb x a).val
    omega)

end Slots

/-! ## The lists of pieces of a trip, over the tiles it loads -/

section Trip

variable {sg : RefSig} {κ : Kind} {sp : Space} (w9 w10 : View sg κ sp S4x1x512 .f32) (w11 : View sg κ sp S4x128x512 .f32) (w12 : View sg κ sp S4x512x512 .f32)

/-- One head of each buffer. -/
abbrev rd1 (v : View sg κ sp S4x1x512 .f32) (f : v.ty.Contents (Elt Ideal)) (g : Fin 4) : Vec Ideal S1x1x512 .f32 :=
  v.readAt (Elt Ideal) (Rect.unit (s := S4x1x512) ![g.val, 0, 0] S1x1x512.size (by decide +revert)).toLoadRect f
abbrev rd2 (v : View sg κ sp S4x128x512 .f32) (f : v.ty.Contents (Elt Ideal)) (g : Fin 4) : Vec Ideal S1x128x512 .f32 :=
  v.readAt (Elt Ideal) (Rect.unit (s := S4x128x512) ![g.val, 0, 0] S1x128x512.size (by decide +revert)).toLoadRect f
abbrev rd3 (v : View sg κ sp S4x512x512 .f32) (f : v.ty.Contents (Elt Ideal)) (g : Fin 4) : Vec Ideal S1x512x512 .f32 :=
  v.readAt (Elt Ideal) (Rect.unit (s := S4x512x512) ![g.val, 0, 0] S1x512x512.size (by decide +revert)).toLoadRect f

/-- A head's piece. -/
abbrev pc1 (g : Fin 4) (x : Vec Ideal S1x1x512 .f32) : View.Piece (Elt Ideal) S4x1x512 .f32 := ⟨Rect.unit (s := S4x1x512) ![g.val, 0, 0] S1x1x512.size (by decide +revert), x⟩
abbrev pc2 (g : Fin 4) (x : Vec Ideal S1x128x512 .f32) : View.Piece (Elt Ideal) S4x128x512 .f32 := ⟨Rect.unit (s := S4x128x512) ![g.val, 0, 0] S1x128x512.size (by decide +revert), x⟩
abbrev pc3 (g : Fin 4) (x : Vec Ideal S1x512x512 .f32) : View.Piece (Elt Ideal) S4x512x512 .f32 := ⟨Rect.unit (s := S4x512x512) ![g.val, 0, 0] S1x512x512.size (by decide +revert), x⟩

theorem rd1_hit (v : View sg κ sp S4x1x512 .f32) (f) (g : Fin 4) (x) (L) : rd1 v (v.writes (Elt Ideal) f (pc1 g x :: L)) g = x := slot_hit v f _ _ x L
theorem rd2_hit (v : View sg κ sp S4x128x512 .f32) (f) (g : Fin 4) (x) (L) : rd2 v (v.writes (Elt Ideal) f (pc2 g x :: L)) g = x := slot_hit v f _ _ x L
theorem rd3_hit (v : View sg κ sp S4x512x512 .f32) (f) (g : Fin 4) (x) (L) : rd3 v (v.writes (Elt Ideal) f (pc3 g x :: L)) g = x := slot_hit v f _ _ x L

theorem apart (g h : Fin 4) (n : g ≠ h) : h.val + 1 ≤ g.val ∨ g.val + 1 ≤ h.val := by omega

theorem rd1_miss (v : View sg κ sp S4x1x512 .f32) (f) (g h : Fin 4) (n : g ≠ h) (x) (L) :
    rd1 v (v.writes (Elt Ideal) f (pc1 g x :: L)) h = rd1 v (v.writes (Elt Ideal) f L) h := slot_miss v f _ _ x L 0 (apart g h n)
theorem rd2_miss (v : View sg κ sp S4x128x512 .f32) (f) (g h : Fin 4) (n : g ≠ h) (x) (L) :
    rd2 v (v.writes (Elt Ideal) f (pc2 g x :: L)) h = rd2 v (v.writes (Elt Ideal) f L) h := slot_miss v f _ _ x L 0 (apart g h n)
theorem rd3_miss (v : View sg κ sp S4x512x512 .f32) (f) (g h : Fin 4) (n : g ≠ h) (x) (L) :
    rd3 v (v.writes (Elt Ideal) f (pc3 g x :: L)) h = rd3 v (v.writes (Elt Ideal) f L) h := slot_miss v f _ _ x L 0 (apart g h n)

/-- The score buffer as the trip writes it: heads 1, 2, 3 of this tile, then head 0 of the next. -/
def scL (S : Fin 4 → Vec Ideal S1x512x512 .f32) : List (View.Piece (Elt Ideal) S4x512x512 .f32) :=
  [pc3 0 (S 0), pc3 3 (S 3), pc3 2 (S 2), pc3 1 (S 1)]

/-- The scores as the trip reads them back: head 0 from before the trip, the others from what it wrote. -/
def scR (S : Fin 4 → Vec Ideal S1x512x512 .f32) (f12 : w12.ty.Contents (Elt Ideal)) : Fin 4 → Vec Ideal S1x512x512 .f32
  | 0 => rd3 w12 f12 0
  | 1 => w12.readCov [pc3 2 (S 2), pc3 1 (S 1)] (Rect.unit (s := S4x512x512) ![1, 0, 0] S1x512x512.size inb_S4x512x512_S1x512x512_1_0_0).toLoadRect
  | 2 => w12.readCov [pc3 3 (S 3), pc3 2 (S 2), pc3 1 (S 1)] (Rect.unit (s := S4x512x512) ![2, 0, 0] S1x512x512.size inb_S4x512x512_S1x512x512_2_0_0).toLoadRect
  | 3 => w12.readCov (scL S) (Rect.unit (s := S4x512x512) ![3, 0, 0] S1x512x512.size inb_S4x512x512_S1x512x512_3_0_0).toLoadRect

variable (T : Fin 4 → Vec Ideal S1x512x512 .f32) (v : Fin 4 → FVec Ideal S128x512 .bf16)
  (f9 : w9.ty.Contents (Elt Ideal)) (f10 : w10.ty.Contents (Elt Ideal)) (f11 : w11.ty.Contents (Elt Ideal))

def nM (g : Fin 4) : Vec Ideal S1x1x512 .f32 := stM (mat (T g)) (rd1 w9 f9 g)
def nL (g : Fin 4) : Vec Ideal S1x1x512 .f32 := stL (mat (T g)) (rd1 w9 f9 g) (rd1 w10 f10 g)
def nA (g : Fin 4) : Vec Ideal S1x128x512 .f32 := stA (mat (T g)) (rd1 w9 f9 g) (rd2 w11 f11 g) (v g)

/-- All four heads' pieces, the last written first. -/
def all1 (x : Fin 4 → Vec Ideal S1x1x512 .f32) : List (View.Piece (Elt Ideal) S4x1x512 .f32) := [pc1 3 (x 3), pc1 2 (x 2), pc1 1 (x 1), pc1 0 (x 0)]
def all2 (x : Fin 4 → Vec Ideal S1x128x512 .f32) : List (View.Piece (Elt Ideal) S4x128x512 .f32) := [pc2 3 (x 3), pc2 2 (x 2), pc2 1 (x 1), pc2 0 (x 0)]

theorem rd1_all (v : View sg κ sp S4x1x512 .f32) (f) (x : Fin 4 → Vec Ideal S1x1x512 .f32) (L) (g : Fin 4) :
    rd1 v (v.writes (Elt Ideal) f (all1 x ++ L)) g = x g := by
  show rd1 v (v.writes (Elt Ideal) f (pc1 3 (x 3) :: pc1 2 (x 2) :: pc1 1 (x 1) :: pc1 0 (x 0) :: L)) g = x g
  match g with
  | 3 => rw [rd1_hit]
  | 2 => rw [rd1_miss v f 3 2 (by decide), rd1_hit]
  | 1 => rw [rd1_miss v f 3 1 (by decide), rd1_miss v f 2 1 (by decide), rd1_hit]
  | 0 => rw [rd1_miss v f 3 0 (by decide), rd1_miss v f 2 0 (by decide), rd1_miss v f 1 0 (by decide), rd1_hit]

theorem rd2_all (v : View sg κ sp S4x128x512 .f32) (f) (x : Fin 4 → Vec Ideal S1x128x512 .f32) (L) (g : Fin 4) :
    rd2 v (v.writes (Elt Ideal) f (all2 x ++ L)) g = x g := by
  show rd2 v (v.writes (Elt Ideal) f (pc2 3 (x 3) :: pc2 2 (x 2) :: pc2 1 (x 1) :: pc2 0 (x 0) :: L)) g = x g
  match g with
  | 3 => rw [rd2_hit]
  | 2 => rw [rd2_miss v f 3 2 (by decide), rd2_hit]
  | 1 => rw [rd2_miss v f 3 1 (by decide), rd2_miss v f 2 1 (by decide), rd2_hit]
  | 0 => rw [rd2_miss v f 3 0 (by decide), rd2_miss v f 2 0 (by decide), rd2_miss v f 1 0 (by decide), rd2_hit]

theorem rd3_all (v : View sg κ sp S4x512x512 .f32) (f) (S : Fin 4 → Vec Ideal S1x512x512 .f32) (L) :
    rd3 v (v.writes (Elt Ideal) f (scL S ++ L)) 0 = S 0 := rd3_hit v f 0 (S 0) _

theorem scR_eq (S : Fin 4 → Vec Ideal S1x512x512 .f32) (f12 : w12.ty.Contents (Elt Ideal)) (g : Fin 4) :
    scR w12 S f12 g = if g = 0 then rd3 w12 f12 0 else S g := by
  match g with
  | 0 => rfl
  | 1 => exact (rd3_miss w12 w12.junk 2 1 (by decide) _ _).trans (rd3_hit w12 w12.junk 1 _ _)
  | 2 => exact (rd3_miss w12 w12.junk 3 2 (by decide) _ _).trans (rd3_hit w12 w12.junk 2 _ _)
  | 3 => exact (rd3_miss w12 w12.junk 0 3 (by decide) _ _).trans (rd3_hit w12 w12.junk 3 _ _)

end Trip

/-! ## The trip's own lists -/

section Loads

variable {sg : RefSig} {κ : Kind} {sp : Space}

/-- A tile of keys, of queries, of values, as loaded. -/
def ldK (v : View sg κ sp S1x4x4096x256 .bf16) (f : v.ty.Contents (Elt Ideal)) (off : Fin 4 → ℕ) (h : ∀ a, off a + S1x1x512x256.size a ≤ S1x4x4096x256.size a) :
    Vec Ideal S1x1x512x256 .bf16 := v.readAt (Elt Ideal) (Rect.unit (s := S1x4x4096x256) off S1x1x512x256.size h).toLoadRect f
def ldQ (v : View sg κ sp S1x4x512x256 .bf16) (f : v.ty.Contents (Elt Ideal)) (off : Fin 4 → ℕ) (h : ∀ a, off a + S1x1x512x256.size a ≤ S1x4x512x256.size a) :
    Vec Ideal S1x1x512x256 .bf16 := v.readAt (Elt Ideal) (Rect.unit (s := S1x4x512x256) off S1x1x512x256.size h).toLoadRect f
def ldV (v : View sg κ sp S1x4x16x128x256 .bf16) (f : v.ty.Contents (Elt Ideal)) (off : Fin 5 → ℕ) (h : ∀ a, off a + S1x1x1x128x256.size a ≤ S1x4x16x128x256.size a) :
    Vec Ideal S1x1x1x128x256 .bf16 := v.readAt (Elt Ideal) (Rect.unit (s := S1x4x16x128x256) off S1x1x1x128x256.size h).toLoadRect f

end Loads

variable (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x16x128x256 .bf16) (harg5 : arg5.IsWhole) (arg6 : Memref sig .tc .vmem S1x512x512 .bf16) (harg6 : arg6.IsWhole) (arg7 : Memref sig .tc .vmem S512x512 .f32) (harg7 : arg7.IsWhole) (arg8 : Memref sig .tc .vmem S1x512x512 .bf16) (harg8 : arg8.IsWhole) (arg9 : Memref sig .tc .vmem S4x1x512 .f32) (harg9 : arg9.IsWhole) (arg10 : Memref sig .tc .vmem S4x1x512 .f32) (harg10 : arg10.IsWhole) (arg11 : Memref sig .tc .vmem S4x128x512 .f32) (harg11 : arg11.IsWhole) (arg12 : Memref sig .tc .vmem S4x512x512 .f32) (harg12 : arg12.IsWhole)
  (v23 c0 v24 : BitVec 32) (X3 : BufTy.Contents (Elt Ideal) arg3.view.ty) (X4 : BufTy.Contents (Elt Ideal) arg4.view.ty) (X5 : BufTy.Contents (Elt Ideal) arg5.view.ty) (k : Fin (k0_t1_loop i).trips)

/-- The scores that the trip computes: of heads 1, 2, 3 of its tile and of head 0 of the next. -/
def tripS : Fin 4 → Vec Ideal S1x512x512 .f32
  | 0 => sc (ldK arg4.view X4 (k0_off7 i k) (k0_off7_inb i k))
      (ldQ arg3.view X3 ![0, 0, 0, 0] inb_S1x4x512x256_S1x1x512x256_0_0_0_0)
  | 1 => sc (ldK arg4.view X4 (k0_off1 i k) (k0_off1_inb i k))
      (ldQ arg3.view X3 ![0, 1, 0, 0] inb_S1x4x512x256_S1x1x512x256_0_1_0_0)
  | 2 => sc (ldK arg4.view X4 (k0_off3 i k) (k0_off3_inb i k))
      (ldQ arg3.view X3 ![0, 2, 0, 0] inb_S1x4x512x256_S1x1x512x256_0_2_0_0)
  | 3 => sc (ldK arg4.view X4 (k0_off5 i k) (k0_off5_inb i k))
      (ldQ arg3.view X3 ![0, 3, 0, 0] inb_S1x4x512x256_S1x1x512x256_0_3_0_0)

/-- The values that the trip loads. -/
def tripV : Fin 4 → FVec Ideal S128x512 .bf16
  | 0 => vv (ldV arg5.view X5 (k0_off2 i k 0#32) (k0_off2_inb i k 0))
      (ldV arg5.view X5 (k0_off2 i k 1#32) (k0_off2_inb i k 1))
  | 1 => vv (ldV arg5.view X5 (k0_off4 i k 0#32) (k0_off4_inb i k 0))
      (ldV arg5.view X5 (k0_off4 i k 1#32) (k0_off4_inb i k 1))
  | 2 => vv (ldV arg5.view X5 (k0_off6 i k 0#32) (k0_off6_inb i k 0))
      (ldV arg5.view X5 (k0_off6 i k 1#32) (k0_off6_inb i k 1))
  | 3 => vv (ldV arg5.view X5 (k0_off8 i k 0#32) (k0_off8_inb i k 0))
      (ldV arg5.view X5 (k0_off8 i k 1#32) (k0_off8_inb i k 1))

set_option maxHeartbeats 4000000 in
theorem tripL_eq (f9 : BufTy.Contents (Elt Ideal) arg9.view.ty) (f10 : BufTy.Contents (Elt Ideal) arg10.view.ty) (f11 : BufTy.Contents (Elt Ideal) arg11.view.ty) (f12 : BufTy.Contents (Elt Ideal) arg12.view.ty) :
    tripL_k0_t1 (F := Ideal) Variants.none c none i arg3 harg3 arg4 harg4 arg5 harg5 arg6 harg6 arg7 harg7 arg8 harg8 arg9 harg9 arg10 harg10 arg11 harg11 arg12 harg12 v23 c0 v24 X3 X4 X5 k f9 f10 f11 f12 =
      (all1 (nM arg9.view (scR arg12.view (tripS i arg3 arg4 X3 X4 k) f12) f9),
        all1 (nL arg9.view arg10.view (scR arg12.view (tripS i arg3 arg4 X3 X4 k) f12) f9 f10),
        all2 (nA arg9.view arg11.view (scR arg12.view (tripS i arg3 arg4 X3 X4 k) f12) (tripV i arg5 X5 k) f9 f11),
        scL (tripS i arg3 arg4 X3 X4 k)) := by
  unfold tripL_k0_t1 trip_k0_t1
  rfl

end Cert.KernelIdeal.Att

end
-- ==== Proof.KernelIdeal.Tiles.lean ====
/- The tiles of keys, queries and values that the kernel loads, read at an index. -/
module

public import proofs.«01_k».proof.Proof.KernelIdeal.Trip

@[expose] public section

set_option maxRecDepth 16384

noncomputable section

namespace Cert.KernelIdeal.Att

open Cert.KernelIdeal Cert.KernelIdeal.Gen Cert.Softmax
open Idealize.ShloMosaic Idealize.ShloMosaic.TcCoe

/-! ## The offsets -/

theorem off_k (k : ℕ) (h : k < 8) : (Scalar.indexCast (Scalar.muli (Scf.iv 0#32 1#32 k) 512#32)).toNat = 512 * k := by
  interval_cases k <;> rfl
theorem off_k1 (k : ℕ) (h : k < 8) :
    (Scalar.indexCast (Scalar.muli (Scalar.addi (Scf.iv 0#32 1#32 k) 1#32) 512#32)).toNat = 512 * (k + 1) := by
  interval_cases k <;> rfl
theorem off_v0 (k : ℕ) (h : k < 8) : (Scalar.indexCast (Scalar.addi (Scalar.muli (Scf.iv 0#32 1#32 k) 2#32) 0#32)).toNat = 2 * k := by
  interval_cases k <;> rfl
theorem off_v1 (k : ℕ) (h : k < 8) : (Scalar.indexCast (Scalar.addi (Scalar.muli (Scf.iv 0#32 1#32 k) 2#32) 1#32)).toNat = 2 * k + 1 := by
  interval_cases k <;> rfl

theorem off_i (k : ℕ) (h : k < 8) :
    (Scalar.indexCast (Scalar.muli (Scalar.subi (Scalar.addi (BitVec.ofNat 32 k) 1#32) 1#32) 512#32)).toNat = 512 * k := by
  interval_cases k <;> rfl
theorem off_i0 (k : ℕ) (h : k < 8) :
    (Scalar.indexCast (Scalar.addi (Scalar.muli (Scalar.subi (Scalar.addi (BitVec.ofNat 32 k) 1#32) 1#32) 2#32) 0#32)).toNat = 2 * k := by
  interval_cases k <;> rfl
theorem off_i1 (k : ℕ) (h : k < 8) :
    (Scalar.indexCast (Scalar.addi (Scalar.muli (Scalar.subi (Scalar.addi (BitVec.ofNat 32 k) 1#32) 1#32) 2#32) 1#32)).toNat = 2 * k + 1 := by
  interval_cases k <;> rfl

variable (i : grid0.Coords)

theorem i2_lt : (i 2).val < 8 := (i 2).isLt

theorem trips_eq : (k0_t1_loop i).trips = (i 2).val := by
  have h := i2_lt i
  unfold k0_t1_loop Scf.Loop.trips
  generalize (i 2).val = n at h ⊢
  interval_cases n <;> rfl

section Loop
variable (k : Fin (k0_t1_loop i).trips)

theorem k_lt : k.val < 8 := by have := k.isLt; have := trips_eq i; have := i2_lt i; omega

theorem k0_off1_eq : k0_off1 i k = ![0, 1, 512 * k.val, 0] := congrArg (fun z => ![0, 1, z, 0]) (off_k k.val (k_lt i k))
theorem k0_off3_eq : k0_off3 i k = ![0, 2, 512 * k.val, 0] := congrArg (fun z => ![0, 2, z, 0]) (off_k k.val (k_lt i k))
theorem k0_off5_eq : k0_off5 i k = ![0, 3, 512 * k.val, 0] := congrArg (fun z => ![0, 3, z, 0]) (off_k k.val (k_lt i k))
theorem k0_off7_eq : k0_off7 i k = ![0, 0, 512 * (k.val + 1), 0] := congrArg (fun z => ![0, 0, z, 0]) (off_k1 k.val (k_lt i k))
theorem k0_off2_eq0 : k0_off2 i k 0#32 = ![0, 0, 2 * k.val, 0, 0] := congrArg (fun z => ![0, 0, z, 0, 0]) (off_v0 k.val (k_lt i k))
theorem k0_off2_eq1 : k0_off2 i k 1#32 = ![0, 0, 2 * k.val + 1, 0, 0] := congrArg (fun z => ![0, 0, z, 0, 0]) (off_v1 k.val (k_lt i k))
theorem k0_off4_eq0 : k0_off4 i k 0#32 = ![0, 1, 2 * k.val, 0, 0] := congrArg (fun z => ![0, 1, z, 0, 0]) (off_v0 k.val (k_lt i k))
theorem k0_off4_eq1 : k0_off4 i k 1#32 = ![0, 1, 2 * k.val + 1, 0, 0] := congrArg (fun z => ![0, 1, z, 0, 0]) (off_v1 k.val (k_lt i k))
theorem k0_off6_eq0 : k0_off6 i k 0#32 = ![0, 2, 2 * k.val, 0, 0] := congrArg (fun z => ![0, 2, z, 0, 0]) (off_v0 k.val (k_lt i k))
theorem k0_off6_eq1 : k0_off6 i k 1#32 = ![0, 2, 2 * k.val + 1, 0, 0] := congrArg (fun z => ![0, 2, z, 0, 0]) (off_v1 k.val (k_lt i k))
theorem k0_off8_eq0 : k0_off8 i k 0#32 = ![0, 3, 2 * k.val, 0, 0] := congrArg (fun z => ![0, 3, z, 0, 0]) (off_v0 k.val (k_lt i k))
theorem k0_off8_eq1 : k0_off8 i k 1#32 = ![0, 3, 2 * k.val + 1, 0, 0] := congrArg (fun z => ![0, 3, z, 0, 0]) (off_v1 k.val (k_lt i k))

end Loop

theorem k0_off17_eq : k0_off17 i = ![0, 1, 512 * (i 2).val, 0] := congrArg (fun z => ![0, 1, z, 0]) (off_i _ (i2_lt i))
theorem k0_off19_eq : k0_off19 i = ![0, 2, 512 * (i 2).val, 0] := congrArg (fun z => ![0, 2, z, 0]) (off_i _ (i2_lt i))
theorem k0_off21_eq : k0_off21 i = ![0, 3, 512 * (i 2).val, 0] := congrArg (fun z => ![0, 3, z, 0]) (off_i _ (i2_lt i))
theorem k0_off18_eq0 : k0_off18 i 0#32 = ![0, 0, 2 * (i 2).val, 0, 0] := congrArg (fun z => ![0, 0, z, 0, 0]) (off_i0 _ (i2_lt i))
theorem k0_off18_eq1 : k0_off18 i 1#32 = ![0, 0, 2 * (i 2).val + 1, 0, 0] := congrArg (fun z => ![0, 0, z, 0, 0]) (off_i1 _ (i2_lt i))
theorem k0_off20_eq0 : k0_off20 i 0#32 = ![0, 1, 2 * (i 2).val, 0, 0] := congrArg (fun z => ![0, 1, z, 0, 0]) (off_i0 _ (i2_lt i))
theorem k0_off20_eq1 : k0_off20 i 1#32 = ![0, 1, 2 * (i 2).val + 1, 0, 0] := congrArg (fun z => ![0, 1, z, 0, 0]) (off_i1 _ (i2_lt i))
theorem k0_off22_eq0 : k0_off22 i 0#32 = ![0, 2, 2 * (i 2).val, 0, 0] := congrArg (fun z => ![0, 2, z, 0, 0]) (off_i0 _ (i2_lt i))
theorem k0_off22_eq1 : k0_off22 i 1#32 = ![0, 2, 2 * (i 2).val + 1, 0, 0] := congrArg (fun z => ![0, 2, z, 0, 0]) (off_i1 _ (i2_lt i))
theorem k0_off23_eq0 : k0_off23 i 0#32 = ![0, 3, 2 * (i 2).val, 0, 0] := congrArg (fun z => ![0, 3, z, 0, 0]) (off_i0 _ (i2_lt i))
theorem k0_off23_eq1 : k0_off23 i 1#32 = ![0, 3, 2 * (i 2).val + 1, 0, 0] := congrArg (fun z => ![0, 3, z, 0, 0]) (off_i1 _ (i2_lt i))

/-! ## The tiles -/

section Tiles

variable {sg : RefSig} {κ : Kind} {sp : Space}

theorem ldK_apply (v : View sg κ sp S1x4x4096x256 .bf16) (f : v.ty.Contents (Elt Ideal)) (off : Fin 4 → ℕ) (h) (g : Fin 4) (t : ℕ) (ht : t < 8)
    (e : off = ![0, g.val, 512 * t, 0]) (r : Fin 512) (d : Fin 256) :
    ldK v f off h (ix4 0 0 r d) = v.read (Elt Ideal) f (ix4 0 g ⟨512 * t + r.val, by omega⟩ d) := by
  subst e
  exact congrArg (v.read (Elt Ideal) f) (funext fun a => Fin.ext (by fin_cases a <;> simp [Rect.toLoadRect, Rect.unit, LoadRect.idx, ix4] ))

theorem ldQ_apply (v : View sg κ sp S1x4x512x256 .bf16) (f : v.ty.Contents (Elt Ideal)) (off : Fin 4 → ℕ) (h) (g : Fin 4)
    (e : off = ![0, g.val, 0, 0]) (r : Fin 512) (d : Fin 256) :
    ldQ v f off h (ix4 0 0 r d) = v.read (Elt Ideal) f (ix4 0 g r d) := by
  subst e
  exact congrArg (v.read (Elt Ideal) f) (funext fun a => Fin.ext (by fin_cases a <;> simp [Rect.toLoadRect, Rect.unit, LoadRect.idx, ix4] ))

theorem ldV_apply (v : View sg κ sp S1x4x16x128x256 .bf16) (f : v.ty.Contents (Elt Ideal)) (off : Fin 5 → ℕ) (h) (g : Fin 4) (t : ℕ) (ht : t < 16)
    (e : off = ![0, g.val, t, 0, 0]) (d : Fin 128) (r : Fin 256) :
    ldV v f off h (ix5 0 0 0 d r) = v.read (Elt Ideal) f (ix5 0 g ⟨t, ht⟩ d r) := by
  subst e
  exact congrArg (v.read (Elt Ideal) f) (funext fun a => Fin.ext (by fin_cases a <;> simp [Rect.toLoadRect, Rect.unit, LoadRect.idx, ix5] ))

end Tiles

/-! ## The numbers behind the tiles -/

/-- Query, key and value of the four heads of a grid step, as real numbers. -/
structure Nums where
  Q : Fin 4 → Fin 512 → Fin 256 → ℝ
  K : Fin 4 → ℕ → Fin 256 → ℝ
  V : Fin 4 → ℕ → Fin 128 → ℝ

/-- The score of a key row for a query. -/
def Nums.S (N : Nums) (g : Fin 4) (j : ℕ) (c : Fin 512) : ℝ := ∑ d : Fin 256, N.K g j d * N.Q g c d

section Tiles

variable {sg : RefSig} {κ : Kind} {sp : Space} (N : Nums)

/-- The three blocks hold these numbers. -/
structure Nums.Holds (N : Nums) (v3 : View sg κ sp S1x4x512x256 .bf16) (v4 : View sg κ sp S1x4x4096x256 .bf16) (v5 : View sg κ sp S1x4x16x128x256 .bf16)
    (X3 : v3.ty.Contents (Elt Ideal)) (X4 : v4.ty.Contents (Elt Ideal)) (X5 : v5.ty.Contents (Elt Ideal)) : Prop where
  q : ∀ g c d, v3.read (Elt Ideal) X3 (ix4 0 g c d) = (N.Q g c d : EReal)
  k : ∀ g (j : Fin 4096) d, v4.read (Elt Ideal) X4 (ix4 0 g j d) = (N.K g j.val d : EReal)
  v : ∀ g (t : Fin 16) d (r : Fin 256), v5.read (Elt Ideal) X5 (ix5 0 g t d r) = (N.V g (256 * t.val + r.val) d : EReal)

variable {N} {v3 : View sg κ sp S1x4x512x256 .bf16} {v4 : View sg κ sp S1x4x4096x256 .bf16} {v5 : View sg κ sp S1x4x16x128x256 .bf16}
    {X3 : v3.ty.Contents (Elt Ideal)} {X4 : v4.ty.Contents (Elt Ideal)} {X5 : v5.ty.Contents (Elt Ideal)}

theorem Nums.Holds.sc (H : N.Holds v3 v4 v5 X3 X4 X5) (g : Fin 4) (t : ℕ) (ht : t < 8) {off off' : Fin 4 → ℕ} (h h')
    (e : off = ![0, g.val, 512 * t, 0]) (e' : off' = ![0, g.val, 0, 0]) (r c : Fin 512) :
    mat (Att.sc (ldK v4 X4 off h) (ldQ v3 X3 off' h')) (ix2 r c) = (N.S g (512 * t + r.val) c : EReal) := by
  rw [sc_apply]
  simp only [ldK_apply v4 X4 off h g t ht e, ldQ_apply v3 X3 off' h' g e', H.q, H.k]
  unfold Nums.S
  rw [coe_sum]
  simp only [EReal.coe_mul]

theorem Nums.Holds.vv (H : N.Holds v3 v4 v5 X3 X4 X5) (g : Fin 4) (t : ℕ) (ht : t < 8) {off off' : Fin 5 → ℕ} (h h')
    (e : off = ![0, g.val, 2 * t, 0, 0]) (e' : off' = ![0, g.val, 2 * t + 1, 0, 0]) (d : Fin 128) (r : Fin 512) :
    Att.vv (ldV v5 X5 off h) (ldV v5 X5 off' h') (ix2 d r) = (N.V g (512 * t + r.val) d : EReal) := by
  rw [vv_apply]
  split
  · rw [ldV_apply v5 X5 off h g (2 * t) (by omega) e, H.v]
    congr 2; show 256 * (2 * t) + r.val = _; omega
  · rw [ldV_apply v5 X5 off' h' g (2 * t + 1) (by omega) e', H.v]
    congr 2; show 256 * (2 * t + 1) + (r.val - 256) = _; omega

end Tiles

end Cert.KernelIdeal.Att

end
-- ==== Proof.KernelIdeal.Loop.lean ====
/- The loop over the key tiles below the diagonal: the running softmax of the four heads after any number of trips. -/
module

public import proofs.«01_k».proof.Proof.KernelIdeal.Tiles

@[expose] public section

set_option maxRecDepth 16384

noncomputable section

namespace Cert.KernelIdeal.Att

open Cert.KernelIdeal Cert.KernelIdeal.Gen Cert.Softmax
open Idealize.ShloMosaic Idealize.ShloMosaic.TcCoe

/-- The sum of the weights of the keys of the first `k` tiles. -/
def Nums.L (N : Nums) (g : Fin 4) (k : ℕ) (c : Fin 512) : ℝ :=
  ∑ t ∈ Finset.range k, ∑ r : Fin 512, pw (N.S g (512 * t + r.val) c : EReal)
/-- The weighted sum of their values. -/
def Nums.A (N : Nums) (g : Fin 4) (k : ℕ) (d : Fin 128) (c : Fin 512) : ℝ :=
  ∑ t ∈ Finset.range k, ∑ r : Fin 512, N.V g (512 * t + r.val) d * pw (N.S g (512 * t + r.val) c : EReal)

variable (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x16x128x256 .bf16) (harg5 : arg5.IsWhole) (arg6 : Memref sig .tc .vmem S1x512x512 .bf16) (harg6 : arg6.IsWhole) (arg7 : Memref sig .tc .vmem S512x512 .f32) (harg7 : arg7.IsWhole) (arg8 : Memref sig .tc .vmem S1x512x512 .bf16) (harg8 : arg8.IsWhole) (arg9 : Memref sig .tc .vmem S4x1x512 .f32) (harg9 : arg9.IsWhole) (arg10 : Memref sig .tc .vmem S4x1x512 .f32) (harg10 : arg10.IsWhole) (arg11 : Memref sig .tc .vmem S4x128x512 .f32) (harg11 : arg11.IsWhole) (arg12 : Memref sig .tc .vmem S4x512x512 .f32) (harg12 : arg12.IsWhole)
  (v23 c0 v24 : BitVec 32) (X3 : BufTy.Contents (Elt Ideal) arg3.view.ty) (X4 : BufTy.Contents (Elt Ideal) arg4.view.ty) (X5 : BufTy.Contents (Elt Ideal) arg5.view.ty)
  (G9 : BufTy.Contents (Elt Ideal) arg9.view.ty) (G10 : BufTy.Contents (Elt Ideal) arg10.view.ty) (G11 : BufTy.Contents (Elt Ideal) arg11.view.ty) (G12 : BufTy.Contents (Elt Ideal) arg12.view.ty)

/-- What the trips before `k` have written. -/
abbrev pbA (k : ℕ) := pb_k0_t1 (F := Ideal) Variants.none c none i arg3 harg3 arg4 harg4 arg5 harg5 arg6 harg6 arg7 harg7 arg8 harg8 arg9 harg9 arg10 harg10 arg11 harg11 arg12 harg12 v23 c0 v24 X3 X4 X5 G9 G10 G11 G12 k

/-- The state of the buffers before trip `k`. -/
structure LoopInv (N : Nums) (k : ℕ) (f9 : BufTy.Contents (Elt Ideal) arg9.view.ty) (f10 : BufTy.Contents (Elt Ideal) arg10.view.ty)
    (f11 : BufTy.Contents (Elt Ideal) arg11.view.ty) (f12 : BufTy.Contents (Elt Ideal) arg12.view.ty) : Prop where
  heads : ∀ g, HeadOK (rd1 arg9.view f9 g) (rd1 arg10.view f10 g) (rd2 arg11.view f11 g) (N.L g k) (N.A g k)
  next : ∀ r c, mat (rd3 arg12.view f12 0) (ix2 r c) = (N.S 0 (512 * k + r.val) c : EReal)

theorem tripS_apply {N : Nums} (H : N.Holds arg3.view arg4.view arg5.view X3 X4 X5) (k : Fin (k0_t1_loop i).trips) (g : Fin 4) (r c : Fin 512) :
    mat (tripS i arg3 arg4 X3 X4 k g) (ix2 r c) = (N.S g (512 * (if g = 0 then k.val + 1 else k.val) + r.val) c : EReal) := by
  have hk : k.val + 1 < 8 := by have := k.isLt; have := trips_eq i; have := i2_lt i; omega
  match g with
  | 0 => exact H.sc 0 (k.val + 1) hk _ _ (k0_off7_eq i k) rfl r c
  | 1 => exact H.sc 1 k.val (by omega) _ _ (k0_off1_eq i k) rfl r c
  | 2 => exact H.sc 2 k.val (by omega) _ _ (k0_off3_eq i k) rfl r c
  | 3 => exact H.sc 3 k.val (by omega) _ _ (k0_off5_eq i k) rfl r c

theorem tripV_apply {N : Nums} (H : N.Holds arg3.view arg4.view arg5.view X3 X4 X5) (k : Fin (k0_t1_loop i).trips) (g : Fin 4) (d : Fin 128) (r : Fin 512) :
    tripV i arg5 X5 k g (ix2 d r) = (N.V g (512 * k.val + r.val) d : EReal) := by
  have hk := k_lt i k
  match g with
  | 0 => exact H.vv 0 k.val hk _ _ (k0_off2_eq0 i k) (k0_off2_eq1 i k) d r
  | 1 => exact H.vv 1 k.val hk _ _ (k0_off4_eq0 i k) (k0_off4_eq1 i k) d r
  | 2 => exact H.vv 2 k.val hk _ _ (k0_off6_eq0 i k) (k0_off6_eq1 i k) d r
  | 3 => exact H.vv 3 k.val hk _ _ (k0_off8_eq0 i k) (k0_off8_eq1 i k) d r

/-- One trip keeps the running softmax right. -/
theorem trip_inv {N : Nums} (H : N.Holds arg3.view arg4.view arg5.view X3 X4 X5) (kk : Fin (k0_t1_loop i).trips) (P9 P10 P11 P12)
    (ih : LoopInv arg9 arg10 arg11 arg12 N kk.val (arg9.view.writes (Elt Ideal) G9 P9) (arg10.view.writes (Elt Ideal) G10 P10)
      (arg11.view.writes (Elt Ideal) G11 P11) (arg12.view.writes (Elt Ideal) G12 P12)) :
    LoopInv arg9 arg10 arg11 arg12 N (kk.val + 1)
      (arg9.view.writes (Elt Ideal) G9 ((tripL_k0_t1 (F := Ideal) Variants.none c none i arg3 harg3 arg4 harg4 arg5 harg5 arg6 harg6 arg7 harg7 arg8 harg8 arg9 harg9 arg10 harg10 arg11 harg11 arg12 harg12 v23 c0 v24 X3 X4 X5 kk (arg9.view.writes (Elt Ideal) G9 P9) (arg10.view.writes (Elt Ideal) G10 P10) (arg11.view.writes (Elt Ideal) G11 P11) (arg12.view.writes (Elt Ideal) G12 P12)).1 ++ P9))
      (arg10.view.writes (Elt Ideal) G10 ((tripL_k0_t1 (F := Ideal) Variants.none c none i arg3 harg3 arg4 harg4 arg5 harg5 arg6 harg6 arg7 harg7 arg8 harg8 arg9 harg9 arg10 harg10 arg11 harg11 arg12 harg12 v23 c0 v24 X3 X4 X5 kk (arg9.view.writes (Elt Ideal) G9 P9) (arg10.view.writes (Elt Ideal) G10 P10) (arg11.view.writes (Elt Ideal) G11 P11) (arg12.view.writes (Elt Ideal) G12 P12)).2.1 ++ P10))
      (arg11.view.writes (Elt Ideal) G11 ((tripL_k0_t1 (F := Ideal) Variants.none c none i arg3 harg3 arg4 harg4 arg5 harg5 arg6 harg6 arg7 harg7 arg8 harg8 arg9 harg9 arg10 harg10 arg11 harg11 arg12 harg12 v23 c0 v24 X3 X4 X5 kk (arg9.view.writes (Elt Ideal) G9 P9) (arg10.view.writes (Elt Ideal) G10 P10) (arg11.view.writes (Elt Ideal) G11 P11) (arg12.view.writes (Elt Ideal) G12 P12)).2.2.1 ++ P11))
      (arg12.view.writes (Elt Ideal) G12 ((tripL_k0_t1 (F := Ideal) Variants.none c none i arg3 harg3 arg4 harg4 arg5 harg5 arg6 harg6 arg7 harg7 arg8 harg8 arg9 harg9 arg10 harg10 arg11 harg11 arg12 harg12 v23 c0 v24 X3 X4 X5 kk (arg9.view.writes (Elt Ideal) G9 P9) (arg10.view.writes (Elt Ideal) G10 P10) (arg11.view.writes (Elt Ideal) G11 P11) (arg12.view.writes (Elt Ideal) G12 P12)).2.2.2 ++ P12)) := by
  rw [tripL_eq]
  refine ⟨fun g => ?_, fun r c => ?_⟩
  · rw [rd1_all, rd1_all, rd2_all]
    have hs : ∀ r c, mat (scR arg12.view (tripS i arg3 arg4 X3 X4 kk) (arg12.view.writes (Elt Ideal) G12 P12) g) (ix2 r c)
        = (N.S g (512 * kk.val + r.val) c : EReal) := by
      intro r c
      rw [scR_eq]
      by_cases hg : g = 0
      · subst hg; rw [if_pos rfl]; exact ih.next r c
      · rw [if_neg hg, tripS_apply i arg3 arg4 arg5 X3 X4 X5 H, if_neg hg]
    have := (ih.heads g).step (mat (scR arg12.view (tripS i arg3 arg4 X3 X4 kk) (arg12.view.writes (Elt Ideal) G12 P12) g)) (fun r c => by rw [hs]; exact EReal.coe_ne_top _) (fun c => ⟨0, by rw [hs]; exact EReal.coe_ne_bot _⟩)
      (tripV i arg5 X5 kk g) (fun d r => N.V g (512 * kk.val + r.val) d) (fun d r => tripV_apply i arg3 arg4 arg5 X3 X4 X5 H kk g d r)
    have eL : N.L g (kk.val + 1) = fun c => N.L g kk.val c + ∑ r : Fin 512, pw (mat (scR arg12.view (tripS i arg3 arg4 X3 X4 kk) (arg12.view.writes (Elt Ideal) G12 P12) g) (ix2 r c)) := by
      funext c; simp only [hs]; exact Finset.sum_range_succ _ _
    have eA : N.A g (kk.val + 1) = fun d c => N.A g kk.val d c + ∑ r : Fin 512, N.V g (512 * kk.val + r.val) d * pw (mat (scR arg12.view (tripS i arg3 arg4 X3 X4 kk) (arg12.view.writes (Elt Ideal) G12 P12) g) (ix2 r c)) := by
      funext d c; simp only [hs]; exact Finset.sum_range_succ _ _
    rw [eL, eA]
    exact this
  · rw [rd3_all]
    exact tripS_apply i arg3 arg4 arg5 X3 X4 X5 H kk 0 r c

/-- The running softmax is right before every trip. -/
theorem loop_inv {N : Nums} (H : N.Holds arg3.view arg4.view arg5.view X3 X4 X5)
    (h0 : LoopInv arg9 arg10 arg11 arg12 N 0 G9 G10 G11 G12) (k : ℕ) (hk : k ≤ (k0_t1_loop i).trips) :
    LoopInv arg9 arg10 arg11 arg12 N k
      (arg9.view.writes (Elt Ideal) G9 (pbA c i arg3 harg3 arg4 harg4 arg5 harg5 arg6 harg6 arg7 harg7 arg8 harg8 arg9 harg9 arg10 harg10 arg11 harg11 arg12 harg12 v23 c0 v24 X3 X4 X5 G9 G10 G11 G12 k).1)
      (arg10.view.writes (Elt Ideal) G10 (pbA c i arg3 harg3 arg4 harg4 arg5 harg5 arg6 harg6 arg7 harg7 arg8 harg8 arg9 harg9 arg10 harg10 arg11 harg11 arg12 harg12 v23 c0 v24 X3 X4 X5 G9 G10 G11 G12 k).2.1)
      (arg11.view.writes (Elt Ideal) G11 (pbA c i arg3 harg3 arg4 harg4 arg5 harg5 arg6 harg6 arg7 harg7 arg8 harg8 arg9 harg9 arg10 harg10 arg11 harg11 arg12 harg12 v23 c0 v24 X3 X4 X5 G9 G10 G11 G12 k).2.2.1)
      (arg12.view.writes (Elt Ideal) G12 (pbA c i arg3 harg3 arg4 harg4 arg5 harg5 arg6 harg6 arg7 harg7 arg8 harg8 arg9 harg9 arg10 harg10 arg11 harg11 arg12 harg12 v23 c0 v24 X3 X4 X5 G9 G10 G11 G12 k).2.2.2) := by
  induction k with
  | zero => exact h0
  | succ k ih =>
    have ih := ih (by omega)
    have e : pbA c i arg3 harg3 arg4 harg4 arg5 harg5 arg6 harg6 arg7 harg7 arg8 harg8 arg9 harg9 arg10 harg10 arg11 harg11 arg12 harg12 v23 c0 v24 X3 X4 X5 G9 G10 G11 G12 (k + 1) = _ :=
      pb_k0_t1_succ (F := Ideal) Variants.none c none i arg3 harg3 arg4 harg4 arg5 harg5 arg6 harg6 arg7 harg7 arg8 harg8 arg9 harg9 arg10 harg10 arg11 harg11 arg12 harg12 v23 c0 v24 X3 X4 X5 G9 G10 G11 G12 (⟨k, by omega⟩ : Fin (k0_t1_loop i).trips)
    rw [e]
    exact trip_inv c i arg3 harg3 arg4 harg4 arg5 harg5 arg6 harg6 arg7 harg7 arg8 harg8 arg9 harg9 arg10 harg10 arg11 harg11 arg12 harg12 v23 c0 v24 X3 X4 X5 G9 G10 G11 G12 H ⟨k, by omega⟩ _ _ _ _ ih

end Cert.KernelIdeal.Att

end
-- ==== Proof.KernelIdeal.Mask.lean ====
/- The tile on the diagonal and the results: what the kernel's body leaves in its output block. -/
module

public import proofs.«01_k».proof.Proof.KernelIdeal.Loop
public import proofs.«01_k».proof.Proof.KernelIdeal.Body

@[expose] public section

set_option maxRecDepth 16384

noncomputable section

namespace Cert.KernelIdeal.Att

open Cert.KernelIdeal Cert.KernelIdeal.Gen Cert.Softmax
open Idealize.ShloMosaic Idealize.ShloMosaic.TcCoe

/-! ## One masked step of each head, over any lists of pieces written before -/

section Masked

variable {sg : RefSig} {κ : Kind} {sp : Space} (w9 w10 : View sg κ sp S4x1x512 .f32) (w11 : View sg κ sp S4x128x512 .f32) (w12 : View sg κ sp S4x512x512 .f32)
  (L9 L10 : List (View.Piece (Elt Ideal) S4x1x512 .f32)) (L11 : List (View.Piece (Elt Ideal) S4x128x512 .f32)) (L12 : List (View.Piece (Elt Ideal) S4x512x512 .f32))
  (S : Fin 4 → Vec Ideal S1x512x512 .f32) (b : FVec Ideal S512x512 .f32) (v : Fin 4 → FVec Ideal S128x512 .bf16)

/-- The pieces of the score buffer. -/
def h1 : List (View.Piece (Elt Ideal) S4x512x512 .f32) := pc3 1 (S 1) :: L12
def h2 : List (View.Piece (Elt Ideal) S4x512x512 .f32) := pc3 2 (S 2) :: h1 L12 S
def h3 : List (View.Piece (Elt Ideal) S4x512x512 .f32) := pc3 3 (S 3) :: h2 L12 S

/-- The masked scores of a head. -/
def mT : Fin 4 → FVec Ideal S512x512 .f32
  | 0 => addf (mat (rd3 w12 (w12.writes (Elt Ideal) w12.junk (h1 L12 S)) 0)) b
  | 1 => addf (mat (rd3 w12 (w12.writes (Elt Ideal) w12.junk (h2 L12 S)) 1)) b
  | 2 => addf (mat (rd3 w12 (w12.writes (Elt Ideal) w12.junk (h3 L12 S)) 2)) b
  | 3 => addf (mat (rd3 w12 (w12.writes (Elt Ideal) w12.junk (h3 L12 S)) 3)) b

theorem mT_eq (g : Fin 4) : mT w12 L12 S b g = addf (mat (if g = 0 then rd3 w12 (w12.writes (Elt Ideal) w12.junk L12) 0 else S g)) b := by
  match g with
  | 0 => exact congrArg (fun z => addf (mat z) b) (rd3_miss w12 w12.junk 1 0 (by decide) _ _)
  | 1 => exact congrArg (fun z => addf (mat z) b) ((rd3_miss w12 w12.junk 2 1 (by decide) _ _).trans (rd3_hit w12 w12.junk 1 _ _))
  | 2 => exact congrArg (fun z => addf (mat z) b) ((rd3_miss w12 w12.junk 3 2 (by decide) _ _).trans (rd3_hit w12 w12.junk 2 _ _))
  | 3 => exact congrArg (fun z => addf (mat z) b) (rd3_hit w12 w12.junk 3 _ _)

variable (T : Fin 4 → FVec Ideal S512x512 .f32)

/-- The pieces of the running maxima, sums and weighted sums with one more head. -/
def s9 (g : Fin 4) (l9 : List (View.Piece (Elt Ideal) S4x1x512 .f32)) : List (View.Piece (Elt Ideal) S4x1x512 .f32) :=
  pc1 g (stM (T g) (rd1 w9 (w9.writes (Elt Ideal) w9.junk l9) g)) :: l9
def s10 (g : Fin 4) (l9 l10 : List (View.Piece (Elt Ideal) S4x1x512 .f32)) : List (View.Piece (Elt Ideal) S4x1x512 .f32) :=
  pc1 g (stL (T g) (rd1 w9 (w9.writes (Elt Ideal) w9.junk l9) g) (rd1 w10 (w10.writes (Elt Ideal) w10.junk l10) g)) :: l10
def s11 (g : Fin 4) (l9 : List (View.Piece (Elt Ideal) S4x1x512 .f32)) (l11 : List (View.Piece (Elt Ideal) S4x128x512 .f32)) : List (View.Piece (Elt Ideal) S4x128x512 .f32) :=
  pc2 g (stA (T g) (rd1 w9 (w9.writes (Elt Ideal) w9.junk l9) g) (rd2 w11 (w11.writes (Elt Ideal) w11.junk l11) g) (v g)) :: l11

theorem s9_rd (g h : Fin 4) (n : g ≠ h) (l9) : rd1 w9 (w9.writes (Elt Ideal) w9.junk (s9 w9 T g l9)) h = rd1 w9 (w9.writes (Elt Ideal) w9.junk l9) h :=
  rd1_miss w9 _ g h n _ _
theorem s10_rd (g h : Fin 4) (n : g ≠ h) (l9 l10) : rd1 w10 (w10.writes (Elt Ideal) w10.junk (s10 w9 w10 T g l9 l10)) h = rd1 w10 (w10.writes (Elt Ideal) w10.junk l10) h :=
  rd1_miss w10 _ g h n _ _
theorem s11_rd (g h : Fin 4) (n : g ≠ h) (l9 l11) : rd2 w11 (w11.writes (Elt Ideal) w11.junk (s11 w9 w11 v T g l9 l11)) h = rd2 w11 (w11.writes (Elt Ideal) w11.junk l11) h :=
  rd2_miss w11 _ g h n _ _

def a1 := s9 w9 T 0 L9
def a2 := s9 w9 T 1 (a1 w9 L9 T)
def a3 := s9 w9 T 2 (a2 w9 L9 T)
def b1 := s10 w9 w10 T 0 L9 L10
def b2 := s10 w9 w10 T 1 (a1 w9 L9 T) (b1 w9 w10 L9 L10 T)
def b3 := s10 w9 w10 T 2 (a2 w9 L9 T) (b2 w9 w10 L9 L10 T)
def b4 := s10 w9 w10 T 3 (a3 w9 L9 T) (b3 w9 w10 L9 L10 T)
def d1 := s11 w9 w11 v T 0 L9 L11
def d2 := s11 w9 w11 v T 1 (a1 w9 L9 T) (d1 w9 w11 L9 L11 v T)
def d3 := s11 w9 w11 v T 2 (a2 w9 L9 T) (d2 w9 w11 L9 L11 v T)
def d4 := s11 w9 w11 v T 3 (a3 w9 L9 T) (d3 w9 w11 L9 L11 v T)

theorem a1_rd (h : Fin 4) (n : 0 < h) : rd1 w9 (w9.writes (Elt Ideal) w9.junk (a1 w9 L9 T)) h = rd1 w9 (w9.writes (Elt Ideal) w9.junk L9) h :=
  s9_rd w9 T 0 h (by omega) _
theorem a2_rd (h : Fin 4) (n : 1 < h) : rd1 w9 (w9.writes (Elt Ideal) w9.junk (a2 w9 L9 T)) h = rd1 w9 (w9.writes (Elt Ideal) w9.junk L9) h :=
  (s9_rd w9 T 1 h (by omega) _).trans (a1_rd w9 L9 T h (by omega))
theorem a3_rd (h : Fin 4) (n : 2 < h) : rd1 w9 (w9.writes (Elt Ideal) w9.junk (a3 w9 L9 T)) h = rd1 w9 (w9.writes (Elt Ideal) w9.junk L9) h :=
  (s9_rd w9 T 2 h (by omega) _).trans (a2_rd w9 L9 T h (by omega))

theorem b4_eq : b4 w9 w10 L9 L10 T = all1 (fun g => stL (T g) (rd1 w9 (w9.writes (Elt Ideal) w9.junk L9) g) (rd1 w10 (w10.writes (Elt Ideal) w10.junk L10) g)) ++ L10 := by
  have e1 : rd1 w10 (w10.writes (Elt Ideal) w10.junk (b1 w9 w10 L9 L10 T)) 1 = _ := s10_rd w9 w10 T 0 1 (by decide) _ _
  have e2 : rd1 w10 (w10.writes (Elt Ideal) w10.junk (b2 w9 w10 L9 L10 T)) 2 = _ := (s10_rd w9 w10 T 1 2 (by decide) _ _).trans (s10_rd w9 w10 T 0 2 (by decide) _ _)
  have e3 : rd1 w10 (w10.writes (Elt Ideal) w10.junk (b3 w9 w10 L9 L10 T)) 3 = _ :=
    (s10_rd w9 w10 T 2 3 (by decide) _ _).trans ((s10_rd w9 w10 T 1 3 (by decide) _ _).trans (s10_rd w9 w10 T 0 3 (by decide) _ _))
  unfold b4 s10
  rw [e3, a3_rd w9 L9 T 3 (by decide)]
  unfold b3 s10
  rw [e2, a2_rd w9 L9 T 2 (by decide)]
  unfold b2 s10
  rw [e1, a1_rd w9 L9 T 1 (by decide)]
  rfl
theorem d4_eq : d4 w9 w11 L9 L11 v T = all2 (fun g => stA (T g) (rd1 w9 (w9.writes (Elt Ideal) w9.junk L9) g) (rd2 w11 (w11.writes (Elt Ideal) w11.junk L11) g) (v g)) ++ L11 := by
  have e1 : rd2 w11 (w11.writes (Elt Ideal) w11.junk (d1 w9 w11 L9 L11 v T)) 1 = _ := s11_rd w9 w11 v T 0 1 (by decide) _ _
  have e2 : rd2 w11 (w11.writes (Elt Ideal) w11.junk (d2 w9 w11 L9 L11 v T)) 2 = _ := (s11_rd w9 w11 v T 1 2 (by decide) _ _).trans (s11_rd w9 w11 v T 0 2 (by decide) _ _)
  have e3 : rd2 w11 (w11.writes (Elt Ideal) w11.junk (d3 w9 w11 L9 L11 v T)) 3 = _ :=
    (s11_rd w9 w11 v T 2 3 (by decide) _ _).trans ((s11_rd w9 w11 v T 1 3 (by decide) _ _).trans (s11_rd w9 w11 v T 0 3 (by decide) _ _))
  unfold d4 s11
  rw [e3, a3_rd w9 L9 T 3 (by decide)]
  unfold d3 s11
  rw [e2, a2_rd w9 L9 T 2 (by decide)]
  unfold d2 s11
  rw [e1, a1_rd w9 L9 T 1 (by decide)]
  rfl

end Masked

/-! ## The result of a head -/

/-- The stored result of a head: the weighted sum over the sum, turned, times the gate. -/
def oo (a : Vec Ideal S1x128x512 .f32) (l : Vec Ideal S1x1x512 .f32) (gs : FVec Ideal S512x128 .bf16) : FVec Ideal S1x512x128 .bf16 :=
  k0_pay1 (transpose S512x128 [1, 0] (mulf (shapeCast S128x512 a shapeCasts_S1x128x512_S128x512)
    (broadcastTo S128x512 (divf (broadcast S1x512 (Scalar.ofBits .f32 0x3F800000#32)) (shapeCast S1x512 l shapeCasts_S1x1x512_S1x512)) broadcasts_S1x512_S128x512))
    transposes_S128x512_p1_0_S512x128) gs

theorem oo_apply (a : Vec Ideal S1x128x512 .f32) (l : Vec Ideal S1x1x512 .f32) (gs : FVec Ideal S512x128 .bf16) (c : Fin 512) (x : Fin 128) :
    oo a l gs (ix3 0 c x) = a (ix3 0 x c) * Ideal.div 1 (l (ix3 0 0 c)) * gs (ix2 c x) := by
  pointwise [oo, k0_pay1]

/-- The gate of a head. -/
def gs (s : FVec Ideal S512x512 .bf16) : Fin 4 → FVec Ideal S512x128 .bf16
  | 0 => extractStridedSlice S512x128 ![0, 0] s slices_S512x512_o0_0_S512x128
  | 1 => extractStridedSlice S512x128 ![0, 128] s slices_S512x512_o0_128_S512x128
  | 2 => extractStridedSlice S512x128 ![0, 256] s slices_S512x512_o0_256_S512x128
  | 3 => extractStridedSlice S512x128 ![0, 384] s slices_S512x512_o0_384_S512x128

theorem gs_apply (s : FVec Ideal S512x512 .bf16) (g : Fin 4) (c : Fin 512) (x : Fin 128) :
    gs s g (ix2 c x) = s (ix2 c ⟨128 * g.val + x.val, by omega⟩) := by
  match g with
  | 0 => pointwise [gs]
  | 1 => pointwise [gs]
  | 2 => pointwise [gs]
  | 3 => pointwise [gs]

/-! ## The body's own list -/

variable (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x16x128x256 .bf16) (harg5 : arg5.IsWhole) (arg6 : Memref sig .tc .vmem S1x512x512 .bf16) (harg6 : arg6.IsWhole) (arg7 : Memref sig .tc .vmem S512x512 .f32) (harg7 : arg7.IsWhole) (arg8 : Memref sig .tc .vmem S1x512x512 .bf16) (harg8 : arg8.IsWhole) (arg9 : Memref sig .tc .vmem S4x1x512 .f32) (harg9 : arg9.IsWhole) (arg10 : Memref sig .tc .vmem S4x1x512 .f32) (harg10 : arg10.IsWhole) (arg11 : Memref sig .tc .vmem S4x128x512 .f32) (harg11 : arg11.IsWhole) (arg12 : Memref sig .tc .vmem S4x512x512 .f32) (harg12 : arg12.IsWhole)
  (X3 : BufTy.Contents (Elt Ideal) arg3.view.ty) (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty) (f12 : BufTy.Contents (Elt Ideal) arg12.view.ty)

abbrev u23 : BitVec 32 := Scalar.subi (Scalar.addi (BitVec.ofNat 32 (i 2).val) 1#32) 1#32
abbrev u24 : BitVec 32 := Scalar.subi (u23 i) 0#32
abbrev u28 : BitVec 32 := Scalar.addi 0#32 (Scalar.muli (Scalar.divsi (u24 i) 1#32) 1#32)

/-- What the buffers are set to at the start. -/
def B9 : List (View.Piece (Elt Ideal) S4x1x512 .f32) := [⟨Rect.unit (s := S4x1x512) ![0, 0, 0] S4x1x512.size inb_S4x1x512_S4x1x512_0_0_0, k0_pay78 (F := Ideal)⟩]
def B10 : List (View.Piece (Elt Ideal) S4x1x512 .f32) := [⟨Rect.unit (s := S4x1x512) ![0, 0, 0] S4x1x512.size inb_S4x1x512_S4x1x512_0_0_0, k0_pay79 (F := Ideal)⟩]
def B11 : List (View.Piece (Elt Ideal) S4x128x512 .f32) := [⟨Rect.unit (s := S4x128x512) ![0, 0, 0] S4x128x512.size inb_S4x128x512_S4x128x512_0_0_0, k0_pay80 (F := Ideal)⟩]
def B12 : List (View.Piece (Elt Ideal) S4x512x512 .f32) := [pc3 0 (sc (ldK arg4.view X4 ![0, 0, 0, 0] inb_S1x4x4096x256_S1x1x512x256_0_0_0_0)
  (ldQ arg3.view X3 ![0, 0, 0, 0] inb_S1x4x512x256_S1x1x512x256_0_0_0_0))]

/-- The first loop's lists, and the second's. -/
def lp := pb_k0_t1 (F := Ideal) Variants.none c none i arg3 harg3 arg4 harg4 arg5 harg5 arg6 harg6 arg7 harg7 arg8 harg8 arg9 harg9 arg10 harg10 arg11 harg11 arg12 harg12 (u23 i) 0#32 (u24 i) X3 X4 X5
  (arg9.view.writes (Elt Ideal) arg9.view.junk B9) (arg10.view.writes (Elt Ideal) arg10.view.junk B10) (arg11.view.writes (Elt Ideal) arg11.view.junk B11)
  (arg12.view.writes (Elt Ideal) f12 (B12 arg3 arg4 X3 X4)) (k0_t1_loop i).trips
def lp2 := pb_k0_t2 (F := Ideal) Variants.none c none i arg3 harg3 arg4 harg4 arg5 harg5 arg6 harg6 arg7 harg7 arg8 harg8 arg9 harg9 arg10 harg10 arg11 harg11 arg12 harg12 (u23 i) 0#32 (u24 i) (u28 i) X3 X4 X5
  (arg9.view.writes (Elt Ideal) arg9.view.junk ((lp c i arg3 harg3 arg4 harg4 arg5 harg5 arg6 harg6 arg7 harg7 arg8 harg8 arg9 harg9 arg10 harg10 arg11 harg11 arg12 harg12 X3 X4 X5 f12).1 ++ B9))
  (arg10.view.writes (Elt Ideal) arg10.view.junk ((lp c i arg3 harg3 arg4 harg4 arg5 harg5 arg6 harg6 arg7 harg7 arg8 harg8 arg9 harg9 arg10 harg10 arg11 harg11 arg12 harg12 X3 X4 X5 f12).2.1 ++ B10))
  (arg11.view.writes (Elt Ideal) arg11.view.junk ((lp c i arg3 harg3 arg4 harg4 arg5 harg5 arg6 harg6 arg7 harg7 arg8 harg8 arg9 harg9 arg10 harg10 arg11 harg11 arg12 harg12 X3 X4 X5 f12).2.2.1 ++ B11))
  (arg12.view.writes (Elt Ideal) f12 ((lp c i arg3 harg3 arg4 harg4 arg5 harg5 arg6 harg6 arg7 harg7 arg8 harg8 arg9 harg9 arg10 harg10 arg11 harg11 arg12 harg12 X3 X4 X5 f12).2.2.2 ++ B12 arg3 arg4 X3 X4)) (k0_t2_loop i).trips

def E9 := (lp2 c i arg3 harg3 arg4 harg4 arg5 harg5 arg6 harg6 arg7 harg7 arg8 harg8 arg9 harg9 arg10 harg10 arg11 harg11 arg12 harg12 X3 X4 X5 f12).1 ++ ((lp c i arg3 harg3 arg4 harg4 arg5 harg5 arg6 harg6 arg7 harg7 arg8 harg8 arg9 harg9 arg10 harg10 arg11 harg11 arg12 harg12 X3 X4 X5 f12).1 ++ B9)
def E10 := (lp2 c i arg3 harg3 arg4 harg4 arg5 harg5 arg6 harg6 arg7 harg7 arg8 harg8 arg9 harg9 arg10 harg10 arg11 harg11 arg12 harg12 X3 X4 X5 f12).2.1 ++ ((lp c i arg3 harg3 arg4 harg4 arg5 harg5 arg6 harg6 arg7 harg7 arg8 harg8 arg9 harg9 arg10 harg10 arg11 harg11 arg12 harg12 X3 X4 X5 f12).2.1 ++ B10)
def E11 := (lp2 c i arg3 harg3 arg4 harg4 arg5 harg5 arg6 harg6 arg7 harg7 arg8 harg8 arg9 harg9 arg10 harg10 arg11 harg11 arg12 harg12 X3 X4 X5 f12).2.2.1 ++ ((lp c i arg3 harg3 arg4 harg4 arg5 harg5 arg6 harg6 arg7 harg7 arg8 harg8 arg9 harg9 arg10 harg10 arg11 harg11 arg12 harg12 X3 X4 X5 f12).2.2.1 ++ B11)
def E12 := (lp2 c i arg3 harg3 arg4 harg4 arg5 harg5 arg6 harg6 arg7 harg7 arg8 harg8 arg9 harg9 arg10 harg10 arg11 harg11 arg12 harg12 X3 X4 X5 f12).2.2.2 ++ ((lp c i arg3 harg3 arg4 harg4 arg5 harg5 arg6 harg6 arg7 harg7 arg8 harg8 arg9 harg9 arg10 harg10 arg11 harg11 arg12 harg12 X3 X4 X5 f12).2.2.2 ++ B12 arg3 arg4 X3 X4)

/-- The scores, the values, the bias and the gate of the last tile. -/
def lastS : Fin 4 → Vec Ideal S1x512x512 .f32
  | 1 => sc (ldK arg4.view X4 (k0_off17 i) (k0_off17_inb i)) (ldQ arg3.view X3 ![0, 1, 0, 0] inb_S1x4x512x256_S1x1x512x256_0_1_0_0)
  | 2 => sc (ldK arg4.view X4 (k0_off19 i) (k0_off19_inb i)) (ldQ arg3.view X3 ![0, 2, 0, 0] inb_S1x4x512x256_S1x1x512x256_0_2_0_0)
  | 3 => sc (ldK arg4.view X4 (k0_off21 i) (k0_off21_inb i)) (ldQ arg3.view X3 ![0, 3, 0, 0] inb_S1x4x512x256_S1x1x512x256_0_3_0_0)
  | 0 => sc (ldK arg4.view X4 (k0_off17 i) (k0_off17_inb i)) (ldQ arg3.view X3 ![0, 0, 0, 0] inb_S1x4x512x256_S1x1x512x256_0_0_0_0)
def lastV : Fin 4 → FVec Ideal S128x512 .bf16
  | 0 => vv (ldV arg5.view X5 (k0_off18 i 0#32) (k0_off18_inb i 0)) (ldV arg5.view X5 (k0_off18 i 1#32) (k0_off18_inb i 1))
  | 1 => vv (ldV arg5.view X5 (k0_off20 i 0#32) (k0_off20_inb i 0)) (ldV arg5.view X5 (k0_off20 i 1#32) (k0_off20_inb i 1))
  | 2 => vv (ldV arg5.view X5 (k0_off22 i 0#32) (k0_off22_inb i 0)) (ldV arg5.view X5 (k0_off22 i 1#32) (k0_off22_inb i 1))
  | 3 => vv (ldV arg5.view X5 (k0_off23 i 0#32) (k0_off23_inb i 0)) (ldV arg5.view X5 (k0_off23 i 1#32) (k0_off23_inb i 1))
def bias : FVec Ideal S512x512 .f32 :=
  shapeCast S512x512 (arg7.view.readAt (Elt Ideal) (Rect.unit (s := S512x512) ![0, 0] S512x512.size inb_S512x512_S512x512_0_0).toLoadRect X7) shapeCasts_S512x512_S512x512
def gate : FVec Ideal S512x512 .bf16 :=
  shapeCast S512x512 (arg6.view.readAt (Elt Ideal) (Rect.unit (s := S1x512x512) ![0, 0, 0] S1x512x512.size inb_S1x512x512_S1x512x512_0_0_0).toLoadRect X6) shapeCasts_S1x512x512_S512x512

/-- The masked scores of the last tile. -/
def lastT := mT arg12.view (E12 c i arg3 harg3 arg4 harg4 arg5 harg5 arg6 harg6 arg7 harg7 arg8 harg8 arg9 harg9 arg10 harg10 arg11 harg11 arg12 harg12 X3 X4 X5 f12) (lastS i arg3 arg4 X3 X4) (bias arg7 X7)

/-- The lists of the running sums at the end. -/
def F10 := b4 arg9.view arg10.view (E9 c i arg3 harg3 arg4 harg4 arg5 harg5 arg6 harg6 arg7 harg7 arg8 harg8 arg9 harg9 arg10 harg10 arg11 harg11 arg12 harg12 X3 X4 X5 f12) (E10 c i arg3 harg3 arg4 harg4 arg5 harg5 arg6 harg6 arg7 harg7 arg8 harg8 arg9 harg9 arg10 harg10 arg11 harg11 arg12 harg12 X3 X4 X5 f12) (lastT c i arg3 harg3 arg4 harg4 arg5 harg5 arg6 harg6 arg7 harg7 arg8 harg8 arg9 harg9 arg10 harg10 arg11 harg11 arg12 harg12 X3 X4 X5 X7 f12)
def F11 := d4 arg9.view arg11.view (E9 c i arg3 harg3 arg4 harg4 arg5 harg5 arg6 harg6 arg7 harg7 arg8 harg8 arg9 harg9 arg10 harg10 arg11 harg11 arg12 harg12 X3 X4 X5 f12) (E11 c i arg3 harg3 arg4 harg4 arg5 harg5 arg6 harg6 arg7 harg7 arg8 harg8 arg9 harg9 arg10 harg10 arg11 harg11 arg12 harg12 X3 X4 X5 f12) (lastV i arg5 X5) (lastT c i arg3 harg3 arg4 harg4 arg5 harg5 arg6 harg6 arg7 harg7 arg8 harg8 arg9 harg9 arg10 harg10 arg11 harg11 arg12 harg12 X3 X4 X5 X7 f12)

/-- A head's result as stored. -/
def fin (g : Fin 4) : FVec Ideal S1x512x128 .bf16 :=
  oo (rd2 arg11.view (arg11.view.writes (Elt Ideal) arg11.view.junk (F11 c i arg3 harg3 arg4 harg4 arg5 harg5 arg6 harg6 arg7 harg7 arg8 harg8 arg9 harg9 arg10 harg10 arg11 harg11 arg12 harg12 X3 X4 X5 X7 f12)) g)
    (rd1 arg10.view (arg10.view.writes (Elt Ideal) arg10.view.junk (F10 c i arg3 harg3 arg4 harg4 arg5 harg5 arg6 harg6 arg7 harg7 arg8 harg8 arg9 harg9 arg10 harg10 arg11 harg11 arg12 harg12 X3 X4 X5 X7 f12)) g)
    (gs (gate arg6 X6) g)

end Cert.KernelIdeal.Att

end
-- ==== Proof.KernelIdeal.Pieces.lean ====
/- The list of pieces that the body leaves in its output block. -/
module

public import proofs.«01_k».proof.Proof.KernelIdeal.Mask

@[expose] public section

set_option maxRecDepth 16384

noncomputable section

namespace Cert.KernelIdeal.Att

open Cert.KernelIdeal Cert.KernelIdeal.Gen Cert.Softmax
open Idealize.ShloMosaic Idealize.ShloMosaic.TcCoe

variable (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x16x128x256 .bf16) (harg5 : arg5.IsWhole) (arg6 : Memref sig .tc .vmem S1x512x512 .bf16) (harg6 : arg6.IsWhole) (arg7 : Memref sig .tc .vmem S512x512 .f32) (harg7 : arg7.IsWhole) (arg8 : Memref sig .tc .vmem S1x512x512 .bf16) (harg8 : arg8.IsWhole) (arg9 : Memref sig .tc .vmem S4x1x512 .f32) (harg9 : arg9.IsWhole) (arg10 : Memref sig .tc .vmem S4x1x512 .f32) (harg10 : arg10.IsWhole) (arg11 : Memref sig .tc .vmem S4x128x512 .f32) (harg11 : arg11.IsWhole) (arg12 : Memref sig .tc .vmem S4x512x512 .f32) (harg12 : arg12.IsWhole)
  (X3 : BufTy.Contents (Elt Ideal) arg3.view.ty) (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty) (f12 : BufTy.Contents (Elt Ideal) arg12.view.ty)

set_option maxHeartbeats 8000000 in
theorem body_list (f9 f10 f11) : (Body.bodyRun (F := Ideal) c i arg3 harg3 arg4 harg4 arg5 harg5 arg6 harg6 arg7 harg7 arg8 harg8 arg9 harg9 arg10 harg10 arg11 harg11 arg12 harg12 X3 X4 X5 X6 X7).1 f9 f10 f11 f12 =
    [⟨Rect.unit (s := S1x512x512) ![0, 0, 384] S1x512x128.size inb_S1x512x512_S1x512x128_0_0_384, fin c i arg3 harg3 arg4 harg4 arg5 harg5 arg6 harg6 arg7 harg7 arg8 harg8 arg9 harg9 arg10 harg10 arg11 harg11 arg12 harg12 X3 X4 X5 X6 X7 f12 3⟩,
      ⟨Rect.unit (s := S1x512x512) ![0, 0, 256] S1x512x128.size inb_S1x512x512_S1x512x128_0_0_256, fin c i arg3 harg3 arg4 harg4 arg5 harg5 arg6 harg6 arg7 harg7 arg8 harg8 arg9 harg9 arg10 harg10 arg11 harg11 arg12 harg12 X3 X4 X5 X6 X7 f12 2⟩,
      ⟨Rect.unit (s := S1x512x512) ![0, 0, 128] S1x512x128.size inb_S1x512x512_S1x512x128_0_0_128, fin c i arg3 harg3 arg4 harg4 arg5 harg5 arg6 harg6 arg7 harg7 arg8 harg8 arg9 harg9 arg10 harg10 arg11 harg11 arg12 harg12 X3 X4 X5 X6 X7 f12 1⟩,
      ⟨Rect.unit (s := S1x512x512) ![0, 0, 0] S1x512x128.size inb_S1x512x512_S1x512x128_0_0_0, fin c i arg3 harg3 arg4 harg4 arg5 harg5 arg6 harg6 arg7 harg7 arg8 harg8 arg9 harg9 arg10 harg10 arg11 harg11 arg12 harg12 X3 X4 X5 X6 X7 f12 0⟩] := by
  unfold Body.bodyRun
  rfl

end Cert.KernelIdeal.Att

end
-- ==== Proof.KernelIdeal.Value.lean ====
/- What the body leaves in its output block, as numbers. -/
module

public import proofs.«01_k».proof.Proof.KernelIdeal.Pieces

@[expose] public section

set_option maxRecDepth 16384

noncomputable section

namespace Cert.KernelIdeal.Att

open Cert.KernelIdeal Cert.KernelIdeal.Gen Cert.Softmax
open Idealize.ShloMosaic Idealize.ShloMosaic.TcCoe

variable (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x16x128x256 .bf16) (harg5 : arg5.IsWhole) (arg6 : Memref sig .tc .vmem S1x512x512 .bf16) (harg6 : arg6.IsWhole) (arg7 : Memref sig .tc .vmem S512x512 .f32) (harg7 : arg7.IsWhole) (arg8 : Memref sig .tc .vmem S1x512x512 .bf16) (harg8 : arg8.IsWhole) (arg9 : Memref sig .tc .vmem S4x1x512 .f32) (harg9 : arg9.IsWhole) (arg10 : Memref sig .tc .vmem S4x1x512 .f32) (harg10 : arg10.IsWhole) (arg11 : Memref sig .tc .vmem S4x128x512 .f32) (harg11 : arg11.IsWhole) (arg12 : Memref sig .tc .vmem S4x512x512 .f32) (harg12 : arg12.IsWhole)
  (X3 : BufTy.Contents (Elt Ideal) arg3.view.ty) (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty) (f12 : BufTy.Contents (Elt Ideal) arg12.view.ty)

/-! ## The start -/

theorem start9 (g : Fin 4) (cc : Fin 512) : rd1 arg9.view (arg9.view.writes (Elt Ideal) arg9.view.junk B9) g (ix3 0 0 cc) = (⊥ : EReal) := by
  have e : (Rect.unit (s := S4x1x512) ![g.val, 0, 0] S1x1x512.size (by decide +revert)).toLoadRect.idx (ix3 0 0 cc)
      = (Rect.unit (s := S4x1x512) ![0, 0, 0] S4x1x512.size inb_S4x1x512_S4x1x512_0_0_0).emb (ix3 g 0 cc) :=
    funext fun a => Fin.ext (by fin_cases a <;> simp [Rect.toLoadRect, Rect.unit, LoadRect.idx, Rect.emb, ix3])
  have h := View.read_writes_cons_emb (Val := Elt Ideal) arg9.view arg9.view.junk (Rect.unit (s := S4x1x512) ![0, 0, 0] S4x1x512.size inb_S4x1x512_S4x1x512_0_0_0) (k0_pay78 (F := Ideal)) [] (ix3 g 0 cc)
  refine (congrArg (arg9.view.read (Elt Ideal) _) e).trans (h.trans ?_)
  rfl
theorem start10 (g : Fin 4) (cc : Fin 512) : rd1 arg10.view (arg10.view.writes (Elt Ideal) arg10.view.junk B10) g (ix3 0 0 cc) = (0 : EReal) := by
  have e : (Rect.unit (s := S4x1x512) ![g.val, 0, 0] S1x1x512.size (by decide +revert)).toLoadRect.idx (ix3 0 0 cc)
      = (Rect.unit (s := S4x1x512) ![0, 0, 0] S4x1x512.size inb_S4x1x512_S4x1x512_0_0_0).emb (ix3 g 0 cc) :=
    funext fun a => Fin.ext (by fin_cases a <;> simp [Rect.toLoadRect, Rect.unit, LoadRect.idx, Rect.emb, ix3])
  have h := View.read_writes_cons_emb (Val := Elt Ideal) arg10.view arg10.view.junk (Rect.unit (s := S4x1x512) ![0, 0, 0] S4x1x512.size inb_S4x1x512_S4x1x512_0_0_0) (k0_pay79 (F := Ideal)) [] (ix3 g 0 cc)
  refine (congrArg (arg10.view.read (Elt Ideal) _) e).trans (h.trans ?_)
  pointwise [k0_pay79]
theorem start11 (g : Fin 4) (x : Fin 128) (cc : Fin 512) : rd2 arg11.view (arg11.view.writes (Elt Ideal) arg11.view.junk B11) g (ix3 0 x cc) = (0 : EReal) := by
  have e : (Rect.unit (s := S4x128x512) ![g.val, 0, 0] S1x128x512.size (by decide +revert)).toLoadRect.idx (ix3 0 x cc)
      = (Rect.unit (s := S4x128x512) ![0, 0, 0] S4x128x512.size inb_S4x128x512_S4x128x512_0_0_0).emb (ix3 g x cc) :=
    funext fun a => Fin.ext (by fin_cases a <;> simp [Rect.toLoadRect, Rect.unit, LoadRect.idx, Rect.emb, ix3])
  have h := View.read_writes_cons_emb (Val := Elt Ideal) arg11.view arg11.view.junk (Rect.unit (s := S4x128x512) ![0, 0, 0] S4x128x512.size inb_S4x128x512_S4x128x512_0_0_0) (k0_pay80 (F := Ideal)) [] (ix3 g x cc)
  refine (congrArg (arg11.view.read (Elt Ideal) _) e).trans (h.trans ?_)
  pointwise [k0_pay80]

theorem start_inv {N : Nums} (H : N.Holds arg3.view arg4.view arg5.view X3 X4 X5) :
    LoopInv arg9 arg10 arg11 arg12 N 0 (arg9.view.writes (Elt Ideal) arg9.view.junk B9) (arg10.view.writes (Elt Ideal) arg10.view.junk B10)
      (arg11.view.writes (Elt Ideal) arg11.view.junk B11) (arg12.view.writes (Elt Ideal) f12 (B12 arg3 arg4 X3 X4)) := by
  refine ⟨fun g d cc => ?_, fun r cc => ?_⟩
  · rw [start9, start10, start11]
    exact Running.start
  · unfold B12
    rw [rd3_hit]
    exact H.sc 0 0 (by omega) _ _ rfl rfl r cc

/-! ## The second loop makes no trip -/

theorem trips2_eq : (k0_t2_loop i).trips = 0 := by
  have h := i2_lt i
  unfold k0_t2_loop Scf.Loop.trips
  generalize (i 2).val = n at h ⊢
  interval_cases n <;> rfl

theorem lp2_eq : lp2 c i arg3 harg3 arg4 harg4 arg5 harg5 arg6 harg6 arg7 harg7 arg8 harg8 arg9 harg9 arg10 harg10 arg11 harg11 arg12 harg12 X3 X4 X5 f12 = ([], [], [], []) := by
  unfold lp2
  rw [trips2_eq]
  rfl

/-- Before the last tile the buffers are right. -/
theorem last_inv {N : Nums} (H : N.Holds arg3.view arg4.view arg5.view X3 X4 X5) :
    LoopInv arg9 arg10 arg11 arg12 N (i 2).val (arg9.view.writes (Elt Ideal) arg9.view.junk (E9 c i arg3 harg3 arg4 harg4 arg5 harg5 arg6 harg6 arg7 harg7 arg8 harg8 arg9 harg9 arg10 harg10 arg11 harg11 arg12 harg12 X3 X4 X5 f12))
      (arg10.view.writes (Elt Ideal) arg10.view.junk (E10 c i arg3 harg3 arg4 harg4 arg5 harg5 arg6 harg6 arg7 harg7 arg8 harg8 arg9 harg9 arg10 harg10 arg11 harg11 arg12 harg12 X3 X4 X5 f12)) (arg11.view.writes (Elt Ideal) arg11.view.junk (E11 c i arg3 harg3 arg4 harg4 arg5 harg5 arg6 harg6 arg7 harg7 arg8 harg8 arg9 harg9 arg10 harg10 arg11 harg11 arg12 harg12 X3 X4 X5 f12))
      (arg12.view.writes (Elt Ideal) f12 (E12 c i arg3 harg3 arg4 harg4 arg5 harg5 arg6 harg6 arg7 harg7 arg8 harg8 arg9 harg9 arg10 harg10 arg11 harg11 arg12 harg12 X3 X4 X5 f12)) := by
  have h := loop_inv c i arg3 harg3 arg4 harg4 arg5 harg5 arg6 harg6 arg7 harg7 arg8 harg8 arg9 harg9 arg10 harg10 arg11 harg11 arg12 harg12  (u23 i) 0#32 (u24 i) X3 X4 X5 _ _ _ _ H (start_inv arg3 arg4 arg5 arg9 arg10 arg11 arg12 X3 X4 X5 f12 H) (k0_t1_loop i).trips le_rfl
  rw [← View.writes_append, ← View.writes_append, ← View.writes_append, ← View.writes_append] at h
  unfold E9 E10 E11 E12
  rw [lp2_eq]
  unfold lp
  rw [List.nil_append, List.nil_append, List.nil_append, List.nil_append]
  rw [trips_eq] at h ⊢
  exact h

/-- Head 0's scores of the last tile do not depend on what the buffer held. -/
theorem pb12_base (G9 G10 G11) (b1 b2 : BufTy.Contents (Elt Ideal) arg12.view.ty) (k : ℕ) (hk : k ≤ (k0_t1_loop i).trips) :
    rd3 arg12.view (arg12.view.writes (Elt Ideal) b1 ((pbA c i arg3 harg3 arg4 harg4 arg5 harg5 arg6 harg6 arg7 harg7 arg8 harg8 arg9 harg9 arg10 harg10 arg11 harg11 arg12 harg12 (u23 i) 0#32 (u24 i) X3 X4 X5 G9 G10 G11 (arg12.view.writes (Elt Ideal) f12 (B12 arg3 arg4 X3 X4)) k).2.2.2 ++ B12 arg3 arg4 X3 X4)) 0
      = rd3 arg12.view (arg12.view.writes (Elt Ideal) b2 ((pbA c i arg3 harg3 arg4 harg4 arg5 harg5 arg6 harg6 arg7 harg7 arg8 harg8 arg9 harg9 arg10 harg10 arg11 harg11 arg12 harg12 (u23 i) 0#32 (u24 i) X3 X4 X5 G9 G10 G11 (arg12.view.writes (Elt Ideal) f12 (B12 arg3 arg4 X3 X4)) k).2.2.2 ++ B12 arg3 arg4 X3 X4)) 0 := by
  cases k with
  | zero => exact (rd3_hit _ _ _ _ _).trans (rd3_hit _ _ _ _ _).symm
  | succ k =>
    have e : pbA c i arg3 harg3 arg4 harg4 arg5 harg5 arg6 harg6 arg7 harg7 arg8 harg8 arg9 harg9 arg10 harg10 arg11 harg11 arg12 harg12 (u23 i) 0#32 (u24 i) X3 X4 X5 G9 G10 G11 (arg12.view.writes (Elt Ideal) f12 (B12 arg3 arg4 X3 X4)) (k + 1) = _ :=
      pb_k0_t1_succ (F := Ideal) Variants.none c none i arg3 harg3 arg4 harg4 arg5 harg5 arg6 harg6 arg7 harg7 arg8 harg8 arg9 harg9 arg10 harg10 arg11 harg11 arg12 harg12 (u23 i) 0#32 (u24 i) X3 X4 X5 G9 G10 G11 (arg12.view.writes (Elt Ideal) f12 (B12 arg3 arg4 X3 X4)) (⟨k, by omega⟩ : Fin (k0_t1_loop i).trips)
    rw [e, tripL_eq]
    show rd3 arg12.view (arg12.view.writes (Elt Ideal) b1 ((scL _ ++ _) ++ _)) 0 = rd3 arg12.view (arg12.view.writes (Elt Ideal) b2 ((scL _ ++ _) ++ _)) 0
    rw [List.append_assoc, rd3_all, rd3_all]

theorem last_next {N : Nums} (H : N.Holds arg3.view arg4.view arg5.view X3 X4 X5) (r cc : Fin 512) :
    mat (rd3 arg12.view (arg12.view.writes (Elt Ideal) arg12.view.junk (E12 c i arg3 harg3 arg4 harg4 arg5 harg5 arg6 harg6 arg7 harg7 arg8 harg8 arg9 harg9 arg10 harg10 arg11 harg11 arg12 harg12 X3 X4 X5 f12)) 0) (ix2 r cc)
      = (N.S 0 (512 * (i 2).val + r.val) cc : EReal) := by
  rw [← (last_inv c i arg3 harg3 arg4 harg4 arg5 harg5 arg6 harg6 arg7 harg7 arg8 harg8 arg9 harg9 arg10 harg10 arg11 harg11 arg12 harg12 X3 X4 X5 f12 H).next r cc]
  unfold E12
  rw [lp2_eq]
  have h := pb12_base c i arg3 harg3 arg4 harg4 arg5 harg5 arg6 harg6 arg7 harg7 arg8 harg8 arg9 harg9 arg10 harg10 arg11 harg11 arg12 harg12 X3 X4 X5 f12 (arg9.view.writes (Elt Ideal) arg9.view.junk B9) (arg10.view.writes (Elt Ideal) arg10.view.junk B10)
    (arg11.view.writes (Elt Ideal) arg11.view.junk B11) arg12.view.junk f12 (k0_t1_loop i).trips le_rfl
  unfold lp
  rw [List.nil_append, h]

/-! ## The last tile -/

theorem lastS_apply {N : Nums} (H : N.Holds arg3.view arg4.view arg5.view X3 X4 X5) (g : Fin 4) (hg : g ≠ 0) (r cc : Fin 512) :
    mat (lastS i arg3 arg4 X3 X4 g) (ix2 r cc) = (N.S g (512 * (i 2).val + r.val) cc : EReal) := by
  match g with
  | 0 => exact absurd rfl hg
  | 1 => exact H.sc 1 _ (i2_lt i) _ _ (k0_off17_eq i) rfl r cc
  | 2 => exact H.sc 2 _ (i2_lt i) _ _ (k0_off19_eq i) rfl r cc
  | 3 => exact H.sc 3 _ (i2_lt i) _ _ (k0_off21_eq i) rfl r cc

theorem lastV_apply {N : Nums} (H : N.Holds arg3.view arg4.view arg5.view X3 X4 X5) (g : Fin 4) (d : Fin 128) (r : Fin 512) :
    lastV i arg5 X5 g (ix2 d r) = (N.V g (512 * (i 2).val + r.val) d : EReal) := by
  match g with
  | 0 => exact H.vv 0 _ (i2_lt i) _ _ (k0_off18_eq0 i) (k0_off18_eq1 i) d r
  | 1 => exact H.vv 1 _ (i2_lt i) _ _ (k0_off20_eq0 i) (k0_off20_eq1 i) d r
  | 2 => exact H.vv 2 _ (i2_lt i) _ _ (k0_off22_eq0 i) (k0_off22_eq1 i) d r
  | 3 => exact H.vv 3 _ (i2_lt i) _ _ (k0_off23_eq0 i) (k0_off23_eq1 i) d r

theorem bias_apply (r cc : Fin 512) : bias arg7 X7 (ix2 r cc) = arg7.view.read (Elt Ideal) X7 (ix2 r cc) := by
  unfold bias
  pointwise []
  exact congrArg (arg7.view.read (Elt Ideal) X7) (funext fun a => Fin.ext (by fin_cases a <;> simp [Rect.toLoadRect, Rect.unit, LoadRect.idx, ix2]))

theorem gate_apply (cc x : Fin 512) : gate arg6 X6 (ix2 cc x) = arg6.view.read (Elt Ideal) X6 (ix3 0 cc x) := by
  unfold gate
  pointwise []
  exact congrArg (arg6.view.read (Elt Ideal) X6) (funext fun a => Fin.ext (by fin_cases a <;> simp [Rect.toLoadRect, Rect.unit, LoadRect.idx, ix3]))

theorem lastT_apply {N : Nums} (H : N.Holds arg3.view arg4.view arg5.view X3 X4 X5) (g : Fin 4) (r cc : Fin 512) :
    lastT c i arg3 harg3 arg4 harg4 arg5 harg5 arg6 harg6 arg7 harg7 arg8 harg8 arg9 harg9 arg10 harg10 arg11 harg11 arg12 harg12 X3 X4 X5 X7 f12 g (ix2 r cc) = (N.S g (512 * (i 2).val + r.val) cc : EReal) + arg7.view.read (Elt Ideal) X7 (ix2 r cc) := by
  unfold lastT
  rw [mT_eq, ← bias_apply]
  show mat _ (ix2 r cc) + _ = _
  congr 1
  by_cases hg : g = 0
  · subst hg; rw [if_pos rfl]; exact last_next c i arg3 harg3 arg4 harg4 arg5 harg5 arg6 harg6 arg7 harg7 arg8 harg8 arg9 harg9 arg10 harg10 arg11 harg11 arg12 harg12 X3 X4 X5 f12 H r cc
  · rw [if_neg hg]; exact lastS_apply i arg3 arg4 arg5 X3 X4 X5 H g hg r cc

/-- The whole sum of weights of a query, and the whole weighted sum. -/
def Nums.LL (N : Nums) (n : ℕ) (b : Fin 512 → Fin 512 → EReal) (g : Fin 4) (cc : Fin 512) : ℝ :=
  N.L g n cc + ∑ r : Fin 512, pw ((N.S g (512 * n + r.val) cc : EReal) + b r cc)
def Nums.AA (N : Nums) (n : ℕ) (b : Fin 512 → Fin 512 → EReal) (g : Fin 4) (x : Fin 128) (cc : Fin 512) : ℝ :=
  N.A g n x cc + ∑ r : Fin 512, N.V g (512 * n + r.val) x * pw ((N.S g (512 * n + r.val) cc : EReal) + b r cc)

theorem Nums.LL_pos (N : Nums) (n : ℕ) (b : Fin 512 → Fin 512 → EReal) (hb : ∀ c, b c c = 0) (g : Fin 4) (cc : Fin 512) : 0 < N.LL n b g cc := by
  have h1 : 0 ≤ N.L g n cc := Finset.sum_nonneg fun _ _ => Finset.sum_nonneg fun _ _ => pw_nonneg _
  have h2 : 0 < ∑ r : Fin 512, pw ((N.S g (512 * n + r.val) cc : EReal) + b r cc) :=
    Finset.sum_pos' (fun _ _ => pw_nonneg _) ⟨cc, Finset.mem_univ _, pw_pos (by rw [hb, add_zero]; exact EReal.coe_ne_bot _)⟩
  unfold Nums.LL
  linarith

/-- The stored result of a head. -/
theorem fin_apply {N : Nums} (H : N.Holds arg3.view arg4.view arg5.view X3 X4 X5) {b : Fin 512 → Fin 512 → EReal}
    (hX7 : ∀ r cc, arg7.view.read (Elt Ideal) X7 (ix2 r cc) = b r cc) (hb : ∀ cc, b cc cc = 0) (hb' : ∀ r cc, b r cc ≠ ⊤)
    (g : Fin 4) (cc : Fin 512) (x : Fin 128) :
    fin c i arg3 harg3 arg4 harg4 arg5 harg5 arg6 harg6 arg7 harg7 arg8 harg8 arg9 harg9 arg10 harg10 arg11 harg11 arg12 harg12 X3 X4 X5 X6 X7 f12 g (ix3 0 cc x)
      = ((N.AA (i 2).val b g x cc / N.LL (i 2).val b g cc : ℝ) : EReal) * arg6.view.read (Elt Ideal) X6 (ix3 0 cc ⟨128 * g.val + x.val, by omega⟩) := by
  have hT : ∀ r cc, lastT c i arg3 harg3 arg4 harg4 arg5 harg5 arg6 harg6 arg7 harg7 arg8 harg8 arg9 harg9 arg10 harg10 arg11 harg11 arg12 harg12 X3 X4 X5 X7 f12 g (ix2 r cc) = (N.S g (512 * (i 2).val + r.val) cc : EReal) + b r cc := by
    intro r cc; rw [lastT_apply c i arg3 harg3 arg4 harg4 arg5 harg5 arg6 harg6 arg7 harg7 arg8 harg8 arg9 harg9 arg10 harg10 arg11 harg11 arg12 harg12 X3 X4 X5 X7 f12 H, hX7]
  have hs := ((last_inv c i arg3 harg3 arg4 harg4 arg5 harg5 arg6 harg6 arg7 harg7 arg8 harg8 arg9 harg9 arg10 harg10 arg11 harg11 arg12 harg12 X3 X4 X5 f12 H).heads g).step (lastT c i arg3 harg3 arg4 harg4 arg5 harg5 arg6 harg6 arg7 harg7 arg8 harg8 arg9 harg9 arg10 harg10 arg11 harg11 arg12 harg12 X3 X4 X5 X7 f12 g)
    (fun r cc => by rw [hT]; exact EReal.add_ne_top (EReal.coe_ne_top _) (hb' _ _))
    (fun cc => ⟨cc, by rw [hT, hb, add_zero]; exact EReal.coe_ne_bot _⟩)
    (lastV i arg5 X5 g) (fun d r => N.V g (512 * (i 2).val + r.val) d) (fun d r => lastV_apply i arg3 arg4 arg5 X3 X4 X5 H g d r) x cc
  simp only [hT] at hs
  have hq := hs.quot (N.LL_pos (i 2).val b hb g cc)
  unfold fin
  rw [oo_apply, gs_apply, gate_apply]
  congr 1
  unfold F10 F11
  rw [b4_eq, d4_eq, rd1_all, rd2_all]
  exact hq

end Cert.KernelIdeal.Att

end
-- ==== Proof.KernelIdeal.Block.lean ====
/- The output block of one grid point, entry by entry. -/
module

public import proofs.«01_k».proof.Proof.KernelIdeal.Value
public import proofs.«01_k».proof.Proof.KernelIdeal.Run

@[expose] public section

set_option maxRecDepth 16384

noncomputable section

namespace Cert.KernelIdeal.Att

open Cert.KernelIdeal Cert.KernelIdeal.Gen Cert.Softmax
open Idealize.ShloMosaic Idealize.ShloMosaic.TcCoe

section Columns
variable {sg : RefSig} {κ : Kind} {sp : Space} (v : View sg κ sp S1x512x512 .bf16) (f : v.ty.Contents (Elt Ideal))

/-- An entry of the column box written last. -/
theorem col_hit (o : ℕ) (inb : ∀ a, (![0, 0, o] : Fin 3 → ℕ) a + S1x512x128.size a ≤ S1x512x512.size a)
    (w : FVec Ideal S1x512x128 .bf16) (L : List (View.Piece (Elt Ideal) S1x512x512 .bf16)) (cc : Fin 512) (x : Fin 128) (y : Fin 512) (h : y.val = o + x.val) :
    v.read (Elt Ideal) (v.writes (Elt Ideal) f (⟨Rect.unit (s := S1x512x512) ![0, 0, o] S1x512x128.size inb, w⟩ :: L)) (ix3 0 cc y) = w (ix3 0 cc x) := by
  have e : (ix3 0 cc y : S1x512x512.Idx) = (Rect.unit (s := S1x512x512) ![0, 0, o] S1x512x128.size inb).emb (ix3 0 cc x : S1x512x128.Idx) := by
    refine funext fun a => Fin.ext ?_
    match a with
    | ⟨0, _⟩ => rfl
    | ⟨1, _⟩ => show cc.val = 0 + 1 * cc.val; omega
    | ⟨2, _⟩ => show y.val = o + 1 * x.val; omega
  rw [e]
  exact View.read_writes_cons_emb (Val := Elt Ideal) v f (Rect.unit (s := S1x512x512) ![0, 0, o] S1x512x128.size inb) w L (ix3 0 cc x : S1x512x128.Idx)

/-- An entry outside the column box written last. -/
theorem col_miss (o : ℕ) (inb : ∀ a, (![0, 0, o] : Fin 3 → ℕ) a + S1x512x128.size a ≤ S1x512x512.size a)
    (w : FVec Ideal S1x512x128 .bf16) (L : List (View.Piece (Elt Ideal) S1x512x512 .bf16)) (cc : Fin 512) (y : Fin 512) (h : y.val < o) :
    v.read (Elt Ideal) (v.writes (Elt Ideal) f (⟨Rect.unit (s := S1x512x512) ![0, 0, o] S1x512x128.size inb, w⟩ :: L)) (ix3 0 cc y)
      = v.read (Elt Ideal) (v.writes (Elt Ideal) f L) (ix3 0 cc y) :=
  View.read_writes_cons_unit_of_not_mem v f inb w L _ rfl 2 (Or.inl h)

theorem cols (W : Fin 4 → FVec Ideal S1x512x128 .bf16) (g : Fin 4) (cc : Fin 512) (x : Fin 128) (y : Fin 512) (h : y.val = 128 * g.val + x.val) :
    v.read (Elt Ideal) (v.writes (Elt Ideal) f [⟨Rect.unit (s := S1x512x512) ![0, 0, 384] S1x512x128.size inb_S1x512x512_S1x512x128_0_0_384, W 3⟩, ⟨Rect.unit (s := S1x512x512) ![0, 0, 256] S1x512x128.size inb_S1x512x512_S1x512x128_0_0_256, W 2⟩, ⟨Rect.unit (s := S1x512x512) ![0, 0, 128] S1x512x128.size inb_S1x512x512_S1x512x128_0_0_128, W 1⟩, ⟨Rect.unit (s := S1x512x512) ![0, 0, 0] S1x512x128.size inb_S1x512x512_S1x512x128_0_0_0, W 0⟩]) (ix3 0 cc y) = W g (ix3 0 cc x) := by
  match g, h with
  | 0, h =>
    have h' : y.val = x.val := h.trans (by simp)
    exact (col_miss v f 384 _ _ _ cc y (by omega)).trans ((col_miss v f 256 _ _ _ cc y (by omega)).trans
      ((col_miss v f 128 _ _ _ cc y (by omega)).trans (col_hit v f 0 _ _ _ cc x y (by omega))))
  | 1, h =>
    have h' : y.val = 128 + x.val := h.trans (by simp)
    exact (col_miss v f 384 _ _ _ cc y (by omega)).trans ((col_miss v f 256 _ _ _ cc y (by omega)).trans (col_hit v f 128 _ _ _ cc x y h'))
  | 2, h =>
    have h' : y.val = 256 + x.val := h.trans (by simp)
    exact (col_miss v f 384 _ _ _ cc y (by omega)).trans (col_hit v f 256 _ _ _ cc x y h')
  | 3, h =>
    have h' : y.val = 384 + x.val := h.trans (by simp)
    exact col_hit v f 384 _ _ _ cc x y h'

end Columns

variable (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x16x128x256 .bf16) (harg5 : arg5.IsWhole) (arg6 : Memref sig .tc .vmem S1x512x512 .bf16) (harg6 : arg6.IsWhole) (arg7 : Memref sig .tc .vmem S512x512 .f32) (harg7 : arg7.IsWhole) (arg8 : Memref sig .tc .vmem S1x512x512 .bf16) (harg8 : arg8.IsWhole) (arg9 : Memref sig .tc .vmem S4x1x512 .f32) (harg9 : arg9.IsWhole) (arg10 : Memref sig .tc .vmem S4x1x512 .f32) (harg10 : arg10.IsWhole) (arg11 : Memref sig .tc .vmem S4x128x512 .f32) (harg11 : arg11.IsWhole) (arg12 : Memref sig .tc .vmem S4x512x512 .f32) (harg12 : arg12.IsWhole)

/-- What a point leaves at row `cc`, column `x` of head `g` of its output block. -/
theorem left_apply (x3 : Vec Ideal S1x4x512x256 .bf16) (x4 : Vec Ideal S1x4x4096x256 .bf16) (x5 : Vec Ideal S1x4x16x128x256 .bf16) (x6 : Vec Ideal S1x512x512 .bf16) (x7 : Vec Ideal S512x512 .f32) (X : Vec Ideal S1x512x512 .bf16)
    (hL : Body.Left (F := Ideal) c i arg3 harg3 arg4 harg4 arg5 harg5 arg6 harg6 arg7 harg7 arg8 harg8 arg9 harg9 arg10 harg10 arg11 harg11 arg12 harg12 x3 x4 x5 x6 x7 X) (N : Nums)
    (hq : ∀ g cc d, x3 (ix4 0 g cc d) = (N.Q g cc d : EReal)) (hk : ∀ g (j : Fin 4096) d, x4 (ix4 0 g j d) = (N.K g j.val d : EReal))
    (hv : ∀ g (t : Fin 16) d (r : Fin 256), x5 (ix5 0 g t d r) = (N.V g (256 * t.val + r.val) d : EReal)) (b : Fin 512 → Fin 512 → EReal)
    (hx7 : ∀ r cc, x7 (ix2 r cc) = b r cc) (hb : ∀ cc, b cc cc = 0) (hb' : ∀ r cc, b r cc ≠ ⊤)
    (g : Fin 4) (cc : Fin 512) (x : Fin 128) (y : Fin 512) (hy : y.val = 128 * g.val + x.val) :
    X (ix3 0 cc y) = ((N.AA (i 2).val b g x cc / N.LL (i 2).val b g cc : ℝ) : EReal) * x6 (ix3 0 cc y) := by
  obtain ⟨X3, X4, X5, X6, X7, f8, f9, f10, f11, f12, h3, h4, h5, h6, h7, rfl⟩ := hL
  subst h3 h4 h5 h6 h7
  rw [body_list]
  refine (cols arg8.view f8 (fin c i arg3 harg3 arg4 harg4 arg5 harg5 arg6 harg6 arg7 harg7 arg8 harg8 arg9 harg9 arg10 harg10 arg11 harg11 arg12 harg12 X3 X4 X5 X6 X7 f12) g cc x y hy).trans ?_
  rw [fin_apply c i arg3 harg3 arg4 harg4 arg5 harg5 arg6 harg6 arg7 harg7 arg8 harg8 arg9 harg9 arg10 harg10 arg11 harg11 arg12 harg12 X3 X4 X5 X6 X7 f12 (N := N) ⟨hq, hk, hv⟩ hx7 hb hb' g cc x]
  congr 2
  exact congrArg (fun z => (ix3 0 cc z : S1x512x512.Idx)) (Fin.ext hy.symm)

end Cert.KernelIdeal.Att

end
-- ==== Proof.KernelIdeal.HostVals.lean ====
/- The arrays that the host code hands to the attention call, entry by entry. -/
module

public import proofs.«01_k».proof.Proof.Gen.KernelIdeal.Frame
public import Idealize.ShloMosaic.Lib.Pointwise

@[expose] public section

set_option maxRecDepth 16384

noncomputable section

namespace Cert.KernelIdeal.HostVal

open Cert.KernelIdeal Cert.KernelIdeal.Gen
open Idealize.ShloMosaic Idealize.ShloMosaic.TcCoe

/-- Two arrays side by side. -/
def pair {α : Type} (t : Shape) (dim : Fin t.rank) (s s' : Shape) (a : s.Idx → α) (b : s'.Idx → α) (h : Shape.Concatenates [s, s'] t dim) : t.Idx → α :=
  concatenate t dim [⟨s, a⟩, ⟨s', b⟩] h

theorem concatenate_pair {α : Type} (t : Shape) (dim : Fin t.rank) (s s' : Shape) (a : s.Idx → α) (b : s'.Idx → α) (h : Shape.Concatenates [s, s'] t dim) :
    concatenate t dim [⟨s, a⟩, ⟨s', b⟩] h = pair t dim s s' a b h := rfl

variable (m : (ℓ : Loc nD τ sig) → Buf (Elt Ideal) ℓ) (c : Dev nD)

/-- The seven arguments, at their shapes. -/
abbrev a0 : S16x4096x8x128.Idx → EReal := m ((c : Thread nD τ).loc main_arg0)
abbrev a1 : S16x4096x8x64.Idx → EReal := m ((c : Thread nD τ).loc main_arg1)
abbrev a2 : S16x4096x256.Idx → EReal := m ((c : Thread nD τ).loc main_arg2)
abbrev a3 : S16x4096x64.Idx → EReal := m ((c : Thread nD τ).loc main_arg3)
abbrev a4 : S16x4096x1024.Idx → EReal := m ((c : Thread nD τ).loc main_arg4)
abbrev a5 : S256x8x128.Idx → EReal := m ((c : Thread nD τ).loc main_arg5)
abbrev a6 : S256x8x128.Idx → EReal := m ((c : Thread nD τ).loc main_arg6)

/-- The factor of the queries: the scores' scale over `log 2`. -/
def qs : EReal := Ideal.div 1 (Ideal.sqrt (Ideal.ofBits .f32 0x43400000#32) * Ideal.log (Ideal.ofBits .f32 0x40000000#32))

/-- The comparison of a lane with 64. -/
theorem slt_lane : ∀ d : Fin 128, IntOp.cmpi .slt (BitVec.ofNat 32 d.val) 64#32 = if d.val < 64 then 1#1 else 0#1 := by decide +kernel

theorem select_one {α : Type} (a b : α) : Scalar.select 1#1 a b = a := rfl
theorem select_zero {α : Type} (a b : α) : Scalar.select 0#1 a b = b := rfl

theorem V_k_nope (b : Fin 16) (h : Fin 8) (j : Fin 4096) (d : Fin 128) :
    V m c main_v36 (ix4 b h j ⟨d.val, by omega⟩) = ∑ r : Fin 256, a5 m c (ix3 r h d) * a2 m c (ix3 b j r) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, concatenate_pair, StableHlo.TRef.binary, StableHlo.TRef.nullary, StableHlo.TRef.ternary, StableHlo.TRef.unary, StableHlo.TRef.toBuf, StableHlo.TRef.ofBuf, cast_eq]
  after_results_simp
  pointwise [pair]

theorem V_k_rope0 (b : Fin 16) (h : Fin 8) (j : Fin 4096) (p : Fin 64) :
    V m c main_v36 (ix4 b h j ⟨128 + p.val, by omega⟩) = a3 m c (ix3 b j p) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, concatenate_pair, StableHlo.TRef.binary, StableHlo.TRef.nullary, StableHlo.TRef.ternary, StableHlo.TRef.unary, StableHlo.TRef.toBuf, StableHlo.TRef.ofBuf, cast_eq]
  after_results_simp
  pointwise [pair]

theorem V_k_rope1 (b : Fin 16) (h : Fin 8) (j : Fin 4096) (p : Fin 64) :
    V m c main_v36 (ix4 b h j ⟨192 + p.val, by omega⟩) = a3 m c (ix3 b j p) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, concatenate_pair, StableHlo.TRef.binary, StableHlo.TRef.nullary, StableHlo.TRef.ternary, StableHlo.TRef.unary, StableHlo.TRef.toBuf, StableHlo.TRef.ofBuf, cast_eq]
  after_results_simp
  pointwise [pair]
  rw [dif_neg (by omega), dif_neg (by omega)]
  congr 2
  exact Fin.ext (by show 192 + p.val - 128 - 64 = p.val; omega)

theorem V_v (b : Fin 16) (h : Fin 8) (t : Fin 16) (d : Fin 128) (r : Fin 256) :
    V m c main_v37 (ix5 b h t d r) = ∑ k : Fin 256, a6 m c (ix3 k h d) * a2 m c (ix3 b ⟨t.val * 256 + r.val, by omega⟩ k) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, concatenate_pair, StableHlo.TRef.binary, StableHlo.TRef.nullary, StableHlo.TRef.ternary, StableHlo.TRef.unary, StableHlo.TRef.toBuf, StableHlo.TRef.ofBuf, cast_eq]
  after_results_simp
  pointwise

theorem V_gate (y : S16x4096x1024.Idx) :
    V m c main_v45 y = a4 m c y * Ideal.div 1 (1 + Ideal.exp (-(a4 m c y))) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, concatenate_pair, StableHlo.TRef.binary, StableHlo.TRef.nullary, StableHlo.TRef.ternary, StableHlo.TRef.unary, StableHlo.TRef.toBuf, StableHlo.TRef.ofBuf, cast_eq]
  after_results_simp
  pointwise

theorem V_q_nope (b : Fin 16) (h : Fin 8) (s : Fin 4096) (d : Fin 128) :
    V m c main_v35 (ix4 b h s ⟨d.val, by omega⟩) = a0 m c (ix4 b s h d) * qs := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, concatenate_pair, StableHlo.TRef.binary, StableHlo.TRef.nullary, StableHlo.TRef.ternary, StableHlo.TRef.unary, StableHlo.TRef.toBuf, StableHlo.TRef.ofBuf, cast_eq]
  after_results_simp
  pointwise [pair, qs]

/-- The lanes of a pair of heads, each kept in its own head. -/
theorem rope_cases (A : Fin 8 → EReal) (q z : EReal) (hz : z = 0) (h : Fin 8) (d : Fin 128) (h1 : h.val / 2 * 2 + d.val / 64 < 8) :
    (if _h1 : h.val % 2 < 1 then Scalar.select (IntOp.cmpi .slt (BitVec.ofNat 32 d.val) 64#32) (A ⟨h.val / 2 * 2 + d.val / 64, h1⟩ * q) z
      else Scalar.select (IntOp.cmpi .slt (BitVec.ofNat 32 d.val) 64#32) z (A ⟨h.val / 2 * 2 + d.val / 64, h1⟩ * q))
      = if d.val / 64 = h.val % 2 then A h * q else 0 := by
  rw [slt_lane, hz]
  have hd2 : d.val / 64 < 2 := by omega
  have hA : d.val / 64 = h.val % 2 → (⟨h.val / 2 * 2 + d.val / 64, h1⟩ : Fin 8) = h := fun hd => Fin.ext (by show h.val / 2 * 2 + d.val / 64 = h.val; omega)
  by_cases hh : h.val % 2 < 1 <;> by_cases hd : d.val < 64
  · rw [dif_pos hh, if_pos hd, if_pos (by omega), select_one, hA (by omega)]
  · rw [dif_pos hh, if_neg hd, if_neg (by omega), select_zero]
  · rw [dif_neg hh, if_pos hd, if_neg (by omega), select_one]
  · rw [dif_neg hh, if_neg hd, if_pos (by omega), select_zero, hA (by omega)]

theorem V_q_rope (b : Fin 16) (h : Fin 8) (s : Fin 4096) (d : Fin 128) :
    V m c main_v35 (ix4 b h s ⟨128 + d.val, by omega⟩) = if d.val / 64 = h.val % 2 then a1 m c (ix4 b s h ⟨d.val % 64, by omega⟩) * qs else 0 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, concatenate_pair, StableHlo.TRef.binary, StableHlo.TRef.nullary, StableHlo.TRef.ternary, StableHlo.TRef.unary, StableHlo.TRef.toBuf, StableHlo.TRef.ofBuf, cast_eq]
  after_results_simp
  pointwise [pair, qs]
  exact rope_cases (fun k => a1 m c (ix4 b s k ⟨d.val % 64, by omega⟩))
    (Ideal.div 1 (Ideal.sqrt (Ideal.ofBits .f32 0x43400000#32) * Ideal.log (Ideal.ofBits .f32 0x40000000#32))) (id (constant (F := Ideal) S_ .f32 0x00000000#32) ix0) Ideal.ofBits_zero_f32 h d (by omega)

end Cert.KernelIdeal.HostVal

end
-- ==== Proof.Chunks.lean ====
/- The chunk of a position, as the host code computes it, and the constants of the host code. -/
module

public import Idealize.ShloMosaic.Lib.StableHlo
public import Idealize.ShloMosaic.Lib.Pointwise

@[expose] public section

noncomputable section

namespace Cert.Chunks

open Idealize.ShloMosaic

/-- The sign of a word. -/
def sgn (x : BitVec 32) : BitVec 32 := if x = 0 then 0 else if x.msb then -1 else 1

/-- The floor of a word over 64, as the host code computes it. -/
def fl (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)

theorem fl_eq : ∀ r : Fin 4096, fl (BitVec.ofNat 32 r.val) = BitVec.ofNat 32 (r.val / 64) := by decide +kernel

theorem sle_small : ∀ a b : Fin 64, IntOp.cmpi .sle (BitVec.ofNat 32 a.val) (BitVec.ofNat 32 b.val) = if a.val ≤ b.val then 1#1 else 0#1 := by decide +kernel

/-- The host code's comparison of the chunks of two positions. -/
theorem chunk_le (k q : Fin 4096) : IntOp.cmpi .sle (fl (BitVec.ofNat 32 k.val)) (fl (BitVec.ofNat 32 q.val)) = if k.val / 64 ≤ q.val / 64 then 1#1 else 0#1 := by
  rw [fl_eq, fl_eq]
  exact sle_small ⟨k.val / 64, by omega⟩ ⟨q.val / 64, by omega⟩

theorem select_chunk {α : Type} (k q : Fin 4096) (a b : α) :
    Scalar.select (IntOp.cmpi .sle (fl (BitVec.ofNat 32 k.val)) (fl (BitVec.ofNat 32 q.val))) a b = if k.val / 64 ≤ q.val / 64 then a else b := by
  rw [chunk_le]
  by_cases h : k.val / 64 ≤ q.val / 64
  · rw [if_pos h, if_pos h]; rfl
  · rw [if_neg h, if_neg h]; rfl

theorem ninf : Ideal.ofBits .f32 0xFF800000#32 = ⊥ := by simp [Ideal.ofBits, Ideal.ieee]
theorem inf : Ideal.ofBits .f32 0x7F800000#32 = ⊤ := by simp [Ideal.ofBits, Ideal.ieee]
theorem two : Ideal.ofBits .f32 0x40000000#32 = ((2 : ℝ) : EReal) := by
  simp [Ideal.ofBits, Ideal.ieee]
  rw [← EReal.coe_mul]; norm_num
theorem c192 : Ideal.ofBits .f32 0x43400000#32 = ((192 : ℝ) : EReal) := by
  simp [Ideal.ofBits, Ideal.ieee]
  rw [← EReal.coe_mul]; norm_num

/-- The scale of the scores. -/
def sc : ℝ := (Real.sqrt 192)⁻¹

theorem sc_eq : Ideal.div 1 (Ideal.sqrt (Ideal.ofBits .f32 0x43400000#32)) = (sc : EReal) := by
  have h : (0 : ℝ) < Real.sqrt 192 := by positivity
  rw [c192, Ideal.sqrt_coe, if_neg (by norm_num), Ideal.div_coe h.ne', one_mul, one_div]; rfl

theorem qs_eq : Ideal.div 1 (Ideal.sqrt (Ideal.ofBits .f32 0x43400000#32) * Ideal.log (Ideal.ofBits .f32 0x40000000#32)) = ((sc * (Real.log 2)⁻¹ : ℝ) : EReal) := by
  have h : (0 : ℝ) < Real.sqrt 192 := by positivity
  have h2 : (0 : ℝ) < Real.log 2 := Real.log_pos (by norm_num)
  rw [c192, two, Ideal.sqrt_coe, if_neg (by norm_num), Ideal.log_coe, if_neg (by norm_num), ← EReal.coe_mul, Ideal.div_coe (mul_pos h h2).ne', one_mul, one_div, mul_inv]
  rfl

end Cert.Chunks

end
-- ==== Proof.KernelIdeal.Bias.lean ====
/- The arrays that the host code hands to the attention call, the bias of the diagonal tile. -/
module

public import proofs.«01_k».proof.Proof.KernelIdeal.HostVals
public import proofs.«01_k».proof.Proof.Chunks
public import Idealize.ShloMosaic.Lib.Pointwise

@[expose] public section

set_option maxRecDepth 16384

noncomputable section

namespace Cert.KernelIdeal.HostVal

open Cert.KernelIdeal Cert.KernelIdeal.Gen
open Idealize.ShloMosaic Idealize.ShloMosaic.TcCoe Cert.Chunks

variable (m : (ℓ : Loc nD τ sig) → Buf (Elt Ideal) ℓ) (c : Dev nD)

theorem V_bias (r cc : Fin 512) :
    V m c main_v52 (ix2 r cc) = (if r.val / 64 ≤ cc.val / 64 then 0 else ⊥ : EReal) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, concatenate_pair, StableHlo.TRef.binary, StableHlo.TRef.nullary, StableHlo.TRef.ternary, StableHlo.TRef.unary, StableHlo.TRef.toBuf, StableHlo.TRef.ofBuf, cast_eq]
  after_results_simp
  refine (show _ = Scalar.select (IntOp.cmpi .sle (fl (BitVec.ofNat 32 r.val)) (fl (BitVec.ofNat 32 cc.val))) (Ideal.ofBits .f32 0x00000000#32) (Ideal.ofBits .f32 0xFF800000#32) from rfl).trans ?_
  rw [select_chunk ⟨r.val, by omega⟩ ⟨cc.val, by omega⟩, Ideal.ofBits_zero_f32, ninf]

end Cert.KernelIdeal.HostVal

end
-- ==== Proof.Model.lean ====
/- The layer's attention on real numbers, as the reference writes it and as the kernel's tiles sum it. -/
module

public import proofs.«01_k».proof.Proof.Softmax
public import proofs.«01_k».proof.Proof.Chunks

@[expose] public section

noncomputable section

namespace Cert.Model

open Cert.Softmax Cert.Chunks Idealize.ShloMosaic

/-- The six inputs of the attention, as real numbers. -/
structure Data where
  qn : Fin 16 → Fin 4096 → Fin 8 → Fin 128 → ℝ
  qp : Fin 16 → Fin 4096 → Fin 8 → Fin 64 → ℝ
  ck : Fin 16 → Fin 4096 → Fin 256 → ℝ
  kp : Fin 16 → Fin 4096 → Fin 64 → ℝ
  wk : Fin 256 → Fin 8 → Fin 128 → ℝ
  wv : Fin 256 → Fin 8 → Fin 128 → ℝ

variable (D : Data) (b : Fin 16) (h : Fin 8) (q k : Fin 4096)

/-- The score of a key for a query. -/
def Data.R : ℝ :=
  ((∑ r : Fin 256, D.ck b k r * ∑ n : Fin 128, D.wk r h n * D.qn b q h n) + ∑ p : Fin 64, D.kp b k p * D.qp b q h p) * sc

/-- The score under the mask: a query sees the keys of its own chunk of 64 and of the earlier ones. -/
def Data.W : EReal := if k.val / 64 ≤ q.val / 64 then (D.R b h q k : EReal) else ⊥

/-- The value of a key. -/
def Data.U (v : Fin 128) : ℝ := ∑ r : Fin 256, D.wv r h v * D.ck b k r

/-- The attention: the mean of the values, weighted by the exponentials of the scores. -/
def Data.out (v : Fin 128) : ℝ := (∑ k : Fin 4096, D.U b h k v * ew (D.W b h q k)) / ∑ k : Fin 4096, ew (D.W b h q k)

theorem Data.W_ne_top : D.W b h q k ≠ ⊤ := by
  unfold Data.W; split
  · exact EReal.coe_ne_top _
  · exact bot_ne_top

theorem Data.W_self : D.W b h q q = (D.R b h q q : EReal) := if_pos (le_refl _)

theorem Data.sum_pos : 0 < ∑ k : Fin 4096, ew (D.W b h q k) :=
  Finset.sum_pos' (fun _ _ => ew_nonneg _) ⟨q, Finset.mem_univ _, ew_pos (by rw [D.W_self]; exact EReal.coe_ne_bot _)⟩

/-- The reference's order: the weights are applied to the compressed keys, then the values' matrix. -/
theorem Data.ref_order (Y : ℝ) (v : Fin 128) :
    (∑ r : Fin 256, (D.wv r h v : EReal) * ∑ k : Fin 4096, (D.ck b k r : EReal)
      * Ideal.div (Ideal.exp (D.W b h q k - (Y : EReal))) (∑ j : Fin 4096, Ideal.exp (D.W b h q j - (Y : EReal))))
      = (D.out b h q v : EReal) := by
  have e : ∀ r : Fin 256, (∑ k : Fin 4096, (D.ck b k r : EReal)
      * Ideal.div (Ideal.exp (D.W b h q k - (Y : EReal))) (∑ j : Fin 4096, Ideal.exp (D.W b h q j - (Y : EReal))))
      = (((∑ k, D.ck b k r * ew (D.W b h q k)) / (∑ k, ew (D.W b h q k)) : ℝ) : EReal) := fun r => by
    refine Eq.trans (Finset.sum_congr rfl fun k _ => mul_comm _ _) ?_
    exact softmax_at_once (fun k => D.W b h q k) (fun k => D.ck b k r) (fun k => D.W_ne_top b h q k) (D.sum_pos b h q) Y
  rw [Finset.sum_congr rfl fun r _ => congrArg (fun z => (D.wv r h v : EReal) * z) (e r)]
  rw [Finset.sum_congr rfl fun r _ => (EReal.coe_mul _ _).symm, ← coe_sum]
  refine congrArg _ ?_
  unfold Data.out Data.U
  simp only [Finset.sum_mul, mul_div_assoc']
  rw [← Finset.sum_div, Finset.sum_comm]
  refine congrArg (fun z => z / _) ?_
  refine (Finset.sum_congr rfl fun r _ => Finset.mul_sum _ _ _).trans ?_
  rw [Finset.sum_comm]
  refine (Finset.sum_congr rfl fun k _ => Finset.sum_congr rfl fun r _ => (mul_assoc _ _ _).symm).trans ?_
  rw [Finset.sum_comm]

/-! ## The kernel's rows -/

/-- A query's row: the 128 plain channels, then the 64 rotary channels in the half that belongs to the head's parity. -/
def Data.qrow (d : Fin 256) : ℝ :=
  if hd : d.val < 128 then D.qn b q h ⟨d.val, hd⟩ * (sc * (Real.log 2)⁻¹)
  else if (d.val - 128) / 64 = h.val % 2 then D.qp b q h ⟨(d.val - 128) % 64, by omega⟩ * (sc * (Real.log 2)⁻¹) else 0

/-- A key's row: its 128 plain channels, then its 64 rotary channels twice. -/
def Data.krow (d : Fin 256) : ℝ :=
  if hd : d.val < 128 then ∑ r : Fin 256, D.wk r h ⟨d.val, hd⟩ * D.ck b k r else D.kp b k ⟨(d.val - 128) % 64, by omega⟩

theorem sum_split (f : Fin 256 → ℝ) :
    ∑ d, f d = ∑ n : Fin 128, f ⟨n.val, by omega⟩ + (∑ p : Fin 64, f ⟨128 + p.val, by omega⟩ + ∑ p : Fin 64, f ⟨192 + p.val, by omega⟩) := by
  refine (Fin.sum_univ_add (a := 128) (b := 128) f).trans (congrArg₂ (· + ·) rfl ?_)
  refine (Fin.sum_univ_add (a := 64) (b := 64) fun i : Fin 128 => f ⟨128 + i.val, by omega⟩).trans (congrArg₂ (· + ·) rfl ?_)
  refine Finset.sum_congr rfl fun p _ => congrArg f (Fin.ext ?_)
  show 128 + (64 + p.val) = 192 + p.val
  omega

theorem Data.krow_qrow : ∑ d, D.krow b h k d * D.qrow b h q d = D.R b h q k * (Real.log 2)⁻¹ := by
  rw [sum_split]
  have e1 : ∑ n : Fin 128, D.krow b h k ⟨n.val, by omega⟩ * D.qrow b h q ⟨n.val, by omega⟩
      = (∑ r : Fin 256, D.ck b k r * ∑ n : Fin 128, D.wk r h n * D.qn b q h n) * (sc * (Real.log 2)⁻¹) := by
    have : ∀ n : Fin 128, D.krow b h k ⟨n.val, by omega⟩ * D.qrow b h q ⟨n.val, by omega⟩
        = (∑ r : Fin 256, D.ck b k r * (D.wk r h n * D.qn b q h n)) * (sc * (Real.log 2)⁻¹) := fun n => by
      unfold Data.krow Data.qrow
      rw [dif_pos n.isLt, dif_pos n.isLt, ← mul_assoc, Finset.sum_mul]
      refine congrArg (fun z => z * _) (Finset.sum_congr rfl fun r _ => ?_)
      show D.wk r h n * D.ck b k r * D.qn b q h n = _
      ring
    rw [Finset.sum_congr rfl fun n _ => this n, ← Finset.sum_mul, Finset.sum_comm]
    refine congrArg (fun z => z * _) (Finset.sum_congr rfl fun r _ => (Finset.mul_sum _ _ _).symm)
  have e2 : ∀ p : Fin 64, D.krow b h k ⟨128 + p.val, by omega⟩ * D.qrow b h q ⟨128 + p.val, by omega⟩
      = if 0 = h.val % 2 then D.kp b k p * D.qp b q h p * (sc * (Real.log 2)⁻¹) else 0 := fun p => by
    have hp : (⟨(128 + p.val - 128) % 64, by omega⟩ : Fin 64) = p := Fin.ext (by show (128 + p.val - 128) % 64 = p.val; omega)
    have hd : (128 + p.val - 128) / 64 = 0 := by omega
    have hn : ¬ 128 + p.val < 128 := by omega
    unfold Data.krow Data.qrow
    simp only [dif_neg hn, hp, hd]
    split
    · ring
    · ring
  have e3 : ∀ p : Fin 64, D.krow b h k ⟨192 + p.val, by omega⟩ * D.qrow b h q ⟨192 + p.val, by omega⟩
      = if 1 = h.val % 2 then D.kp b k p * D.qp b q h p * (sc * (Real.log 2)⁻¹) else 0 := fun p => by
    have hp : (⟨(192 + p.val - 128) % 64, by omega⟩ : Fin 64) = p := Fin.ext (by show (192 + p.val - 128) % 64 = p.val; omega)
    have hd : (192 + p.val - 128) / 64 = 1 := by omega
    have hn : ¬ 192 + p.val < 128 := by omega
    unfold Data.krow Data.qrow
    simp only [dif_neg hn, hp, hd]
    split
    · ring
    · ring
  rw [e1, Finset.sum_congr rfl fun p _ => e2 p, Finset.sum_congr rfl fun p _ => e3 p]
  unfold Data.R
  rcases Nat.mod_two_eq_zero_or_one h.val with h0 | h0
  · simp only [h0, if_true, Nat.one_ne_zero, if_false, Finset.sum_const_zero, ← Finset.sum_mul]; ring
  · simp only [h0, if_true, Nat.zero_ne_one, if_false, Finset.sum_const_zero, ← Finset.sum_mul]; ring

/-! ## The kernel's tiles -/

theorem range_tiles (f : ℕ → ℝ) (n : ℕ) : ∑ k ∈ Finset.range (512 * n), f k = ∑ t ∈ Finset.range n, ∑ r : Fin 512, f (512 * t + r.val) := by
  induction n with
  | zero => rfl
  | succ n ih =>
    rw [Nat.mul_succ, Finset.sum_range_add, ih, Finset.sum_range_succ _ n, Fin.sum_univ_eq_sum_range fun r => f (512 * n + r)]

/-- A sum over the visible keys: the whole tiles before the query's tile, and the visible part of its own. -/
theorem visible_tiles (f : ℕ → ℝ) (n : ℕ) (hn : n < 8) (cc : Fin 512) :
    ∑ k : Fin 4096, (if k.val / 64 ≤ (512 * n + cc.val) / 64 then f k.val else 0)
      = ∑ t ∈ Finset.range n, ∑ r : Fin 512, f (512 * t + r.val) + ∑ r : Fin 512, if r.val / 64 ≤ cc.val / 64 then f (512 * n + r.val) else 0 := by
  rw [Fin.sum_univ_eq_sum_range fun k => if k / 64 ≤ (512 * n + cc.val) / 64 then f k else 0]
  have hs : Finset.range (512 * (n + 1)) ⊆ Finset.range 4096 := Finset.range_subset_range.2 (by omega)
  rw [← Finset.sum_subset hs fun k _ hk => if_neg (by rw [Finset.mem_range] at hk; have := cc.isLt; omega)]
  rw [range_tiles, Finset.sum_range_succ]
  refine congrArg₂ (· + ·) (Finset.sum_congr rfl fun t ht => Finset.sum_congr rfl fun r _ => ?_) (Finset.sum_congr rfl fun r _ => ?_)
  · rw [Finset.mem_range] at ht
    have := r.isLt
    exact if_pos (by omega)
  · have e : ((512 * n + r.val) / 64 ≤ (512 * n + cc.val) / 64) = (r.val / 64 ≤ cc.val / 64) := propext (by omega)
    simp only [e]

end Cert.Model

end
-- ==== Proof.KernelIdeal.Sums.lean ====
/- The kernel's sums over tiles are the attention's sums over keys. -/
module

public import proofs.«01_k».proof.Proof.KernelIdeal.Value
public import proofs.«01_k».proof.Proof.Model

@[expose] public section

noncomputable section

namespace Cert.KernelIdeal.Att

open Cert.Softmax Cert.Model Idealize.ShloMosaic

variable (D : Data) (b : Fin 16) (hg : Fin 2) (qt : Fin 8)

/-- Head `g` of a group of four. -/
abbrev headOf (g : Fin 4) : Fin 8 := ⟨4 * hg.val + g.val, by omega⟩
/-- Query `cc` of a tile. -/
abbrev tokOf (cc : Fin 512) : Fin 4096 := ⟨512 * qt.val + cc.val, by omega⟩

/-- The numbers in the blocks of one grid point. -/
def nums : Nums where
  Q g cc d := D.qrow b (headOf hg g) (tokOf qt cc) d
  K g j d := if hj : j < 4096 then D.krow b (headOf hg g) ⟨j, hj⟩ d else 0
  V g j v := if hj : j < 4096 then D.U b (headOf hg g) ⟨j, hj⟩ v else 0

theorem nums_K (g : Fin 4) (k : Fin 4096) (d : Fin 256) : (nums D b hg qt).K g k.val d = D.krow b (headOf hg g) k d := dif_pos k.isLt
theorem nums_V (g : Fin 4) (k : Fin 4096) (v : Fin 128) : (nums D b hg qt).V g k.val v = D.U b (headOf hg g) k v := dif_pos k.isLt

theorem nums_S (g : Fin 4) (k : Fin 4096) (cc : Fin 512) :
    (nums D b hg qt).S g k.val cc = D.R b (headOf hg g) (tokOf qt cc) k * (Real.log 2)⁻¹ :=
  (Finset.sum_congr rfl fun d _ => congrArg (fun z => z * _) (nums_K D b hg qt g k d)).trans (D.krow_qrow b (headOf hg g) (tokOf qt cc) k)

/-- The bias of the query's own tile: −∞ on the later chunks. -/
def chunkBias (r cc : Fin 512) : EReal := if r.val / 64 ≤ cc.val / 64 then 0 else ⊥

theorem chunkBias_self (cc : Fin 512) : chunkBias cc cc = 0 := if_pos (le_refl _)
theorem chunkBias_ne_top (r cc : Fin 512) : chunkBias r cc ≠ ⊤ := by
  unfold chunkBias; split
  · exact EReal.zero_ne_top
  · exact bot_ne_top

theorem weighted (g : Fin 4) (cc : Fin 512) (w : ℕ → ℝ) :
    ∑ k : Fin 4096, w k.val * ew (D.W b (headOf hg g) (tokOf qt cc) k)
      = ∑ t ∈ Finset.range qt.val, ∑ r : Fin 512, w (512 * t + r.val) * pw ((nums D b hg qt).S g (512 * t + r.val) cc : EReal)
        + ∑ r : Fin 512, w (512 * qt.val + r.val) * pw (((nums D b hg qt).S g (512 * qt.val + r.val) cc : EReal) + chunkBias r cc) := by
  have e1 : ∀ k : Fin 4096, w k.val * ew (D.W b (headOf hg g) (tokOf qt cc) k)
      = if k.val / 64 ≤ (512 * qt.val + cc.val) / 64 then w k.val * pw ((nums D b hg qt).S g k.val cc : EReal) else 0 := fun k => by
    rw [nums_S, pw_log2e]
    unfold Data.W
    split
    · rfl
    · rw [ew_bot, mul_zero]
  rw [Finset.sum_congr rfl fun k _ => e1 k,
    visible_tiles (fun j => w j * pw ((nums D b hg qt).S g j cc : EReal)) qt.val qt.isLt cc]
  refine congrArg (fun z => _ + z) (Finset.sum_congr rfl fun r _ => ?_)
  unfold chunkBias
  split
  · rw [add_zero]
  · rw [EReal.add_bot, pw_bot, mul_zero]

theorem LL_eq (g : Fin 4) (cc : Fin 512) :
    (nums D b hg qt).LL qt.val chunkBias g cc = ∑ k : Fin 4096, ew (D.W b (headOf hg g) (tokOf qt cc) k) := by
  have h := weighted D b hg qt g cc fun _ => 1
  simp only [one_mul] at h
  exact h.symm

theorem AA_eq (g : Fin 4) (x : Fin 128) (cc : Fin 512) :
    (nums D b hg qt).AA qt.val chunkBias g x cc
      = ∑ k : Fin 4096, D.U b (headOf hg g) k x * ew (D.W b (headOf hg g) (tokOf qt cc) k) := by
  have h := weighted D b hg qt g cc fun j => (nums D b hg qt).V g j x
  simp only [nums_V] at h
  exact h.symm

/-- The quotient that a grid point leaves is the attention. -/
theorem quot_eq (g : Fin 4) (x : Fin 128) (cc : Fin 512) :
    (nums D b hg qt).AA qt.val chunkBias g x cc / (nums D b hg qt).LL qt.val chunkBias g cc = D.out b (headOf hg g) (tokOf qt cc) x := by
  rw [AA_eq, LL_eq]; rfl

end Cert.KernelIdeal.Att

end
-- ==== Proof.KernelIdeal.Arrays.lean ====
/- The kernel's output array. -/
module

public import proofs.«01_k».proof.Proof.KernelIdeal.Block
public import proofs.«01_k».proof.Proof.KernelIdeal.HostVals
public import proofs.«01_k».proof.Proof.KernelIdeal.Bias
public import proofs.«01_k».proof.Proof.KernelIdeal.Sums
public import Idealize.ShloMosaic.Lib.Pipeline.ArrRel

@[expose] public section

set_option maxRecDepth 16384

noncomputable section

namespace Cert.KernelIdeal.Arr

open Cert.KernelIdeal Cert.KernelIdeal.Gen Cert.KernelIdeal.HostVal Cert.Softmax Cert.Model Cert.Chunks
open Idealize.ShloMosaic Idealize.ShloMosaic.TcCoe
open Idealize.ShloMosaic.Pipeline (Dat RDat)
open Cert.KernelIdeal.Att (nums nums_K nums_V headOf tokOf chunkBias chunkBias_self chunkBias_ne_top quot_eq left_apply)

variable (m : (ℓ : Loc nD τ sig) → Buf (Elt Ideal) ℓ) (c : Dev nD) (D : Data)

/-- The arguments are these real numbers. -/
structure Real : Prop where
  qn : ∀ b s h n, a0 m c (ix4 b s h n) = (D.qn b s h n : EReal)
  qp : ∀ b s h p, a1 m c (ix4 b s h p) = (D.qp b s h p : EReal)
  ck : ∀ b s r, a2 m c (ix3 b s r) = (D.ck b s r : EReal)
  kp : ∀ b s p, a3 m c (ix3 b s p) = (D.kp b s p : EReal)
  wk : ∀ r h n, a5 m c (ix3 r h n) = (D.wk r h n : EReal)
  wv : ∀ r h n, a6 m c (ix3 r h n) = (D.wv r h n : EReal)

theorem idx_facts : ∀ t : Fin grid0.N, win0_0.index t = ![t.val / 16, t.val / 8 % 2, t.val % 8, 0] ∧ win0_1.index t = ![t.val / 16, t.val / 8 % 2, 0, 0]
    ∧ win0_2.index t = ![t.val / 16, t.val / 8 % 2, 0, 0, 0] ∧ win0_3.index t = ![t.val / 16, t.val % 8, t.val / 8 % 2]
    ∧ win0_4.index t = ![0, 0] ∧ win0_5.index t = ![t.val / 16, t.val % 8, t.val / 8 % 2] ∧ (grid0.coords t 2).val = t.val % 8 := by
  decide +kernel

/-- The batch, the group of heads and the query tile of a grid point. -/
abbrev bat (t : Fin grid0.N) : Fin 16 := ⟨t.val / 16, by have h : t.val < 256 := t.isLt; omega⟩
abbrev grp (t : Fin grid0.N) : Fin 2 := ⟨t.val / 8 % 2, by omega⟩
abbrev til (t : Fin grid0.N) : Fin 8 := ⟨t.val % 8, by omega⟩
/-- The column of the output that holds column `y` of a group's block. -/
abbrev colOf (t : Fin grid0.N) (y : Fin 512) : Fin 1024 := ⟨512 * (t.val / 8 % 2) + y.val, by omega⟩

theorem emb_q (t : Fin grid0.N) (g : Fin 4) (cc : Fin 512) (d : Fin 256) :
    ((win0_0.rect t).emb (ix4 0 g cc d) : S16x8x4096x256.Idx) = ix4 (bat t) (headOf (grp t) g) (tokOf (til t) cc) d := by
  refine funext fun a => Fin.ext ?_
  refine (win0_0.rect_emb_val t (ix4 0 g cc d) a).trans ?_
  rw [(idx_facts t).1]
  match a with
  | ⟨0, _⟩ => show t.val / 16 * 1 + 0 = t.val / 16; omega
  | ⟨1, _⟩ => show t.val / 8 % 2 * 4 + g.val = 4 * (t.val / 8 % 2) + g.val; omega
  | ⟨2, _⟩ => show t.val % 8 * 512 + cc.val = 512 * (t.val % 8) + cc.val; omega
  | ⟨3, _⟩ => show 0 * 256 + d.val = d.val; omega

theorem emb_k (t : Fin grid0.N) (g : Fin 4) (j : Fin 4096) (d : Fin 256) :
    ((win0_1.rect t).emb (ix4 0 g j d) : S16x8x4096x256.Idx) = ix4 (bat t) (headOf (grp t) g) j d := by
  refine funext fun a => Fin.ext ?_
  refine (win0_1.rect_emb_val t (ix4 0 g j d) a).trans ?_
  rw [(idx_facts t).2.1]
  match a with
  | ⟨0, _⟩ => show t.val / 16 * 1 + 0 = t.val / 16; omega
  | ⟨1, _⟩ => show t.val / 8 % 2 * 4 + g.val = 4 * (t.val / 8 % 2) + g.val; omega
  | ⟨2, _⟩ => show 0 * 4096 + j.val = j.val; omega
  | ⟨3, _⟩ => show 0 * 256 + d.val = d.val; omega

theorem emb_v (t : Fin grid0.N) (g : Fin 4) (u : Fin 16) (d : Fin 128) (r : Fin 256) :
    ((win0_2.rect t).emb (ix5 0 g u d r) : S16x8x16x128x256.Idx) = ix5 (bat t) (headOf (grp t) g) u d r := by
  refine funext fun a => Fin.ext ?_
  refine (win0_2.rect_emb_val t (ix5 0 g u d r) a).trans ?_
  rw [(idx_facts t).2.2.1]
  match a with
  | ⟨0, _⟩ => show t.val / 16 * 1 + 0 = t.val / 16; omega
  | ⟨1, _⟩ => show t.val / 8 % 2 * 4 + g.val = 4 * (t.val / 8 % 2) + g.val; omega
  | ⟨2, _⟩ => show 0 * 16 + u.val = u.val; omega
  | ⟨3, _⟩ => show 0 * 128 + d.val = d.val; omega
  | ⟨4, _⟩ => show 0 * 256 + r.val = r.val; omega

theorem emb_g (t : Fin grid0.N) (cc y : Fin 512) :
    ((win0_3.rect t).emb (ix3 0 cc y) : S16x4096x1024.Idx) = ix3 (bat t) (tokOf (til t) cc) (colOf t y) := by
  refine funext fun a => Fin.ext ?_
  refine (win0_3.rect_emb_val t (ix3 0 cc y) a).trans ?_
  rw [(idx_facts t).2.2.2.1]
  match a with
  | ⟨0, _⟩ => show t.val / 16 * 1 + 0 = t.val / 16; omega
  | ⟨1, _⟩ => show t.val % 8 * 512 + cc.val = 512 * (t.val % 8) + cc.val; omega
  | ⟨2, _⟩ => show t.val / 8 % 2 * 512 + y.val = 512 * (t.val / 8 % 2) + y.val; omega

theorem emb_b (t : Fin grid0.N) (y : S512x512.Idx) : ((win0_4.rect t).emb y : S512x512.Idx) = y := by
  refine funext fun a => Fin.ext (win0_4.rect_emb_val_of_index_zero t a ?_ y)
  rw [(idx_facts t).2.2.2.2.1]
  match a with
  | ⟨0, _⟩ => rfl
  | ⟨1, _⟩ => rfl

theorem emb_o (t : Fin grid0.N) (cc y : Fin 512) :
    ((win0_5.rect t).emb (ix3 0 cc y) : S16x4096x1024.Idx) = ix3 (bat t) (tokOf (til t) cc) (colOf t y) := by
  refine funext fun a => Fin.ext ?_
  refine (win0_5.rect_emb_val t (ix3 0 cc y) a).trans ?_
  rw [(idx_facts t).2.2.2.2.2.1]
  match a with
  | ⟨0, _⟩ => show t.val / 16 * 1 + 0 = t.val / 16; omega
  | ⟨1, _⟩ => show t.val % 8 * 512 + cc.val = 512 * (t.val % 8) + cc.val; omega
  | ⟨2, _⟩ => show t.val / 8 % 2 * 512 + y.val = 512 * (t.val / 8 % 2) + y.val; omega

variable {m c D} (hR : Real m c D)
include hR

theorem q_real (b : Fin 16) (h : Fin 8) (s : Fin 4096) (d : Fin 256) : (V m c main_v35 (ix4 b h s d) : EReal) = (D.qrow b h s d : EReal) := by
  by_cases hd : d.val < 128
  · refine (V_q_nope m c b h s ⟨d.val, hd⟩).trans ?_
    unfold Data.qrow qs
    rw [dif_pos hd, hR.qn, qs_eq, EReal.coe_mul (D.qn b s h ⟨d.val, hd⟩)]
  · obtain ⟨e, rfl⟩ : ∃ e : Fin 128, d = ⟨128 + e.val, Nat.add_lt_add_left e.isLt 128⟩ := ⟨⟨d.val - 128, by omega⟩, Fin.ext (by show d.val = 128 + (d.val - 128); omega)⟩
    refine (V_q_rope m c b h s e).trans ?_
    have he : 128 + e.val - 128 = e.val := by omega
    unfold Data.qrow qs
    simp only [dif_neg hd, he]
    rw [hR.qp, qs_eq]
    split
    · rw [EReal.coe_mul (D.qp b s h _)]
    · rfl

theorem k_sum (b : Fin 16) (h : Fin 8) (j : Fin 4096) (n : Fin 128) :
    (∑ r : Fin 256, a5 m c (ix3 r h n) * a2 m c (ix3 b j r)) = ((∑ r : Fin 256, D.wk r h n * D.ck b j r : ℝ) : EReal) := by
  rw [coe_sum]
  exact Finset.sum_congr rfl fun r _ => by rw [hR.wk, hR.ck, EReal.coe_mul]

theorem v_sum (b : Fin 16) (h : Fin 8) (j : Fin 4096) (n : Fin 128) :
    (∑ r : Fin 256, a6 m c (ix3 r h n) * a2 m c (ix3 b j r)) = ((∑ r : Fin 256, D.wv r h n * D.ck b j r : ℝ) : EReal) := by
  rw [coe_sum]
  exact Finset.sum_congr rfl fun r _ => by rw [hR.wv, hR.ck, EReal.coe_mul]

theorem k_real (b : Fin 16) (h : Fin 8) (j : Fin 4096) (d : Fin 256) : (V m c main_v36 (ix4 b h j d) : EReal) = (D.krow b h j d : EReal) := by
  unfold Data.krow
  by_cases hd : d.val < 128
  · rw [dif_pos hd]
    exact (V_k_nope m c b h j ⟨d.val, hd⟩).trans (k_sum hR b h j ⟨d.val, hd⟩)
  · rw [dif_neg hd]
    by_cases h2 : d.val < 192
    · obtain ⟨p, rfl⟩ : ∃ p : Fin 64, d = ⟨128 + p.val, (Nat.add_lt_add_left p.isLt 128).trans_le (by decide)⟩ := ⟨⟨d.val - 128, by omega⟩, Fin.ext (by show d.val = 128 + (d.val - 128); omega)⟩
      refine (V_k_rope0 m c b h j p).trans ((hR.kp b j p).trans (congrArg (fun z => (D.kp b j z : EReal)) (Fin.ext ?_)))
      show p.val = (128 + p.val - 128) % 64
      omega
    · obtain ⟨p, rfl⟩ : ∃ p : Fin 64, d = ⟨192 + p.val, (Nat.add_lt_add_left p.isLt 192).trans_le (by decide)⟩ := ⟨⟨d.val - 192, by omega⟩, Fin.ext (by show d.val = 192 + (d.val - 192); omega)⟩
      refine (V_k_rope1 m c b h j p).trans ((hR.kp b j p).trans (congrArg (fun z => (D.kp b j z : EReal)) (Fin.ext ?_)))
      show p.val = (192 + p.val - 128) % 64
      omega

theorem v_real (b : Fin 16) (h : Fin 8) (t : Fin 16) (d : Fin 128) (r : Fin 256) (j : Fin 4096) (hj : j.val = t.val * 256 + r.val) :
    (V m c main_v37 (ix5 b h t d r) : EReal) = (D.U b h j d : EReal) := by
  refine (V_v m c b h t d r).trans ((v_sum hR b h _ d).trans ?_)
  exact congrArg (fun z => (D.U b h z d : EReal)) (Fin.ext hj.symm)

theorem blk_q (t : Fin cfg0.N) (g : Fin 4) (cc : Fin 512) (d : Fin 256) :
    iblk m c 0 t (ix4 0 g cc d) = ((nums D (bat t) (grp t) (til t)).Q g cc d : EReal) :=
  (congrArg (V m c main_v35) (emb_q t g cc d)).trans (q_real hR _ _ _ d)

theorem blk_k (t : Fin cfg0.N) (g : Fin 4) (j : Fin 4096) (d : Fin 256) :
    iblk m c 1 t (ix4 0 g j d) = ((nums D (bat t) (grp t) (til t)).K g j.val d : EReal) := by
  rw [nums_K]
  exact (congrArg (V m c main_v36) (emb_k t g j d)).trans (k_real hR _ _ j d)

theorem blk_v (t : Fin cfg0.N) (g : Fin 4) (u : Fin 16) (d : Fin 128) (r : Fin 256) :
    iblk m c 2 t (ix5 0 g u d r) = ((nums D (bat t) (grp t) (til t)).V g (256 * u.val + r.val) d : EReal) := by
  have hj : 256 * u.val + r.val < 4096 := by omega
  rw [show (nums D (bat t) (grp t) (til t)).V g (256 * u.val + r.val) d = D.U (bat t) (headOf (grp t) g) ⟨256 * u.val + r.val, hj⟩ d from
    nums_V D (bat t) (grp t) (til t) g ⟨256 * u.val + r.val, hj⟩ d]
  exact (congrArg (V m c main_v37) (emb_v t g u d r)).trans (v_real hR _ _ u d r _ (by show 256 * u.val + r.val = _; omega))

omit hR in
theorem blk_b (t : Fin cfg0.N) (r cc : Fin 512) : iblk m c 4 t (ix2 r cc) = chunkBias r cc :=
  (congrArg (V m c main_v52) (emb_b t _)).trans (V_bias m c r cc)

omit hR in
theorem blk_g (t : Fin cfg0.N) (cc y : Fin 512) : iblk m c 3 t (ix3 0 cc y) = V m c main_v45 (ix3 (bat t) (tokOf (til t) cc) (colOf t y)) :=
  congrArg (V m c main_v45) (emb_g t cc y)

/-- What a point leaves at row `cc`, column `x` of head `g` of its block. -/
theorem point (t : Fin cfg0.N) (X : Vec Ideal S1x512x512 .bf16) (hL : Body.Rl (F := Ideal) m c 5 t X) (g : Fin 4) (cc : Fin 512) (x : Fin 128)
    (y : Fin 512) (hy : y.val = 128 * g.val + x.val) :
    X (ix3 0 cc y) = (D.out (bat t) (headOf (grp t) g) (tokOf (til t) cc) x : EReal)
      * (V m c main_v45 (ix3 (bat t) (tokOf (til t) cc) (colOf t y)) : EReal) := by
  have hi := (idx_facts t).2.2.2.2.2.2
  have h := left_apply c (grid0.coords t) _ _ _ _ _ _ _ _ _ _ _ _ _ _ _ _ _ _ _ _ _ _ _ _ _ X hL (nums D (bat t) (grp t) (til t)) (blk_q hR t) (blk_k hR t) (blk_v hR t)
    chunkBias (blk_b t) chunkBias_self chunkBias_ne_top g cc x y hy
  rw [hi, blk_g] at h
  exact h.trans (congrArg (fun z : ℝ => (z : EReal) * _) (quot_eq D (bat t) (grp t) (til t) g x cc))

end Cert.KernelIdeal.Arr

end
-- ==== Proof.Ref.lean ====
/- The reference, entry by entry. -/
module

public import proofs.«01_k».proof.Proof.Gen.ReferenceIdeal.Run
public import proofs.«01_k».proof.Proof.Chunks
public import proofs.«01_k».proof.Proof.Softmax

@[expose] public section

set_option maxRecDepth 16384

noncomputable section

namespace Cert.ReferenceIdeal.Att

open Cert.ReferenceIdeal Cert.ReferenceIdeal.Gen Cert.ReferenceIdeal.Value Cert.Chunks
open Idealize.ShloMosaic Idealize.ShloMosaic.TcCoe

variable (m : (ℓ : Loc nD τ sig) → Buf (Elt Ideal) ℓ) (c : Dev nD)

/-- The seven arguments, at their shapes. -/
abbrev a0 : S16x4096x8x128.Idx → EReal := m ((c : Thread nD τ).loc main_arg0)
abbrev a1 : S16x4096x8x64.Idx → EReal := m ((c : Thread nD τ).loc main_arg1)
abbrev a2 : S16x4096x256.Idx → EReal := m ((c : Thread nD τ).loc main_arg2)
abbrev a3 : S16x4096x64.Idx → EReal := m ((c : Thread nD τ).loc main_arg3)
abbrev a4 : S16x4096x1024.Idx → EReal := m ((c : Thread nD τ).loc main_arg4)
abbrev a5 : S256x8x128.Idx → EReal := m ((c : Thread nD τ).loc main_arg5)
abbrev a6 : S256x8x128.Idx → EReal := m ((c : Thread nD τ).loc main_arg6)

/-- The masked scores. -/
def scores : FVec Ideal S16x8x4096x4096 .f32 :=
  (select (broadcastInDim S16x8x4096x4096 ![2, 3] bcast_S4096x4096_S16x8x4096x4096_2_3 (cmpi .sle (broadcastInDim S4096x4096 ![0, 1] bcast_S1x4096_S4096x4096_0_1 (broadcastInDim S1x4096 ![1] bcast_S4096_S1x4096_1 (select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))))) (broadcastInDim S4096x4096 ![0, 1] bcast_S4096x1_S4096x4096_0_1 (broadcastInDim S4096x1 ![0] bcast_S4096_S4096x1_0 (select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))))))) (mulf (addf (transpose S16x8x4096x4096 [0, 3, 2, 1] (Host.dotGeneral (φ₁ := .f32) (φ₂ := .f32) dot_S16x4096x256_S16x4096x8x256_S16x4096x4096x8_2_3_1_12_0_0 none (m ((c.tc : Thread nD τ).loc main_arg2)) (transpose S16x4096x8x256 [2, 3, 0, 1] (Host.dotGeneral (φ₁ := .f32) (φ₂ := .f32) dot_S256x8x128_S16x4096x8x128_S8x256x16x4096_2_3_0_01_1_2 none (m ((c.tc : Thread nD τ).loc main_arg5)) (m ((c.tc : Thread nD τ).loc main_arg0))) transposes_S8x256x16x4096_S16x4096x8x256_2_3_0_1)) transposes_S16x4096x4096x8_S16x8x4096x4096_0_3_2_1) (transpose S16x8x4096x4096 [0, 3, 2, 1] (Host.dotGeneral (φ₁ := .f32) (φ₂ := .f32) dot_S16x4096x64_S16x4096x8x64_S16x4096x4096x8_2_3_1_12_0_0 none (m ((c.tc : Thread nD τ).loc main_arg3)) (m ((c.tc : Thread nD τ).loc main_arg1))) transposes_S16x4096x4096x8_S16x8x4096x4096_0_3_2_1)) (broadcastInDim S16x8x4096x4096 ![] bcast_S_S16x8x4096x4096 (Host.divf (constant S_ .f32 0x3F800000#32) (Host.sqrt (constant S_ .f32 0x43400000#32))))) (broadcastInDim S16x8x4096x4096 ![] bcast_S_S16x8x4096x4096 (id (constant S_ .f32 0xFF800000#32))))

/-- The largest score of each row. -/
def rowMax (S : FVec Ideal S16x8x4096x4096 .f32) : FVec Ideal S16x8x4096 .f32 :=
  (maximumf (broadcastInDim S16x8x4096 ![] bcast_S_S16x8x4096 (constant S_ .f32 0xFF800000#32)) (Host.reduce FloatOps.maximumf S (constant S_ .f32 0xFF800000#32) reducesTo_S16x8x4096x4096_S16x8x4096_d3 h_S_))

/-- The exponentials of the scores, less the row's largest. -/
def expo (S : FVec Ideal S16x8x4096x4096 .f32) : FVec Ideal S16x8x4096x4096 .f32 :=
  (Host.exp (subf S (broadcastInDim S16x8x4096x4096 ![0, 1, 2, 3] bcast_S16x8x4096x1_S16x8x4096x4096_0_1_2_3 (broadcastInDim S16x8x4096x1 ![0, 1, 2] bcast_S16x8x4096_S16x8x4096x1_0_1_2 (rowMax S)))))

/-- The weights. -/
def weights (E : FVec Ideal S16x8x4096x4096 .f32) : FVec Ideal S16x8x4096x4096 .f32 :=
  (Host.divf E (broadcastInDim S16x8x4096x4096 ![0, 1, 2, 3] bcast_S16x8x4096x1_S16x8x4096x4096_0_1_2_3 (broadcastInDim S16x8x4096x1 ![0, 1, 2] bcast_S16x8x4096_S16x8x4096x1_0_1_2 (Host.reduceAdd E (constant S_ .f32 0x00000000#32) reducesTo_S16x8x4096x4096_S16x8x4096_d3 h_S_))))

/-- The gated result. -/
def gated (P : FVec Ideal S16x8x4096x4096 .f32) : FVec Ideal S16x4096x1024 .bf16 :=
  truncf .bf16 (mulf (shapeCast _ (transpose S16x4096x8x128 [2, 3, 0, 1] (Host.dotGeneral (φ₁ := .f32) (φ₂ := .f32) dot_S256x8x128_S16x4096x8x256_S8x128x16x4096_0_3_2_01_1_2 none (m ((c.tc : Thread nD τ).loc main_arg6)) (transpose S16x4096x8x256 [0, 3, 2, 1] (Host.dotGeneral (φ₁ := .f32) (φ₂ := .f32) dot_S16x4096x256_S16x8x4096x4096_S16x256x8x4096_1_3_2_12_0_0 none (m ((c.tc : Thread nD τ).loc main_arg2)) P) transposes_S16x256x8x4096_S16x4096x8x256_0_3_2_1)) transposes_S8x128x16x4096_S16x4096x8x128_2_3_0_1) shapeCasts_S16x4096x8x128_S16x4096x1024) (mulf (m ((c.tc : Thread nD τ).loc main_arg4)) (Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf (m ((c.tc : Thread nD τ).loc main_arg4)))))))) bitsLt_bf16_f32

theorem res_eq : res_main_v38 (F := Ideal) m c = gated m c (weights (expo (scores m c))) := by
  unfold res_main_v38 gated weights expo rowMax scores
  rfl

theorem scores_apply (b : Fin 16) (h : Fin 8) (q k : Fin 4096) :
    scores m c (ix4 b h q k) = if k.val / 64 ≤ q.val / 64 then
      ((∑ r : Fin 256, a2 m c (ix3 b k r) * ∑ n : Fin 128, a5 m c (ix3 r h n) * a0 m c (ix4 b q h n))
        + ∑ p : Fin 64, a3 m c (ix3 b k p) * a1 m c (ix4 b q h p)) * (sc : EReal) else ⊥ := by
  have e : scores m c (ix4 b h q k) = Scalar.select (IntOp.cmpi .sle (fl (BitVec.ofNat 32 k.val)) (fl (BitVec.ofNat 32 q.val)))
      (((∑ r : Fin 256, a2 m c (ix3 b k r) * ∑ n : Fin 128, a5 m c (ix3 r h n) * a0 m c (ix4 b q h n))
        + ∑ p : Fin 64, a3 m c (ix3 b k p) * a1 m c (ix4 b q h p)) * Ideal.div 1 (Ideal.sqrt (Ideal.ofBits .f32 0x43400000#32))) (Ideal.ofBits .f32 0xFF800000#32) := by
    unfold scores
    pointwise
    rfl
  rw [e, select_chunk, sc_eq, ninf]

theorem last_reduces : S16x8x4096x4096.Reduces [3] S16x8x4096 := by decide

theorem last_lift (b : Fin 16) (h : Fin 8) (q k : Fin 4096) : last_reduces.lift (ix3 b h q) k = ix4 b h q k := by
  funext a; apply Fin.ext
  fin_cases a <;> rfl

theorem fold_sup {ι : Type} (s : Finset ι) (f : ι → EReal) (z : EReal) (hz : z = ⊥) :
    s.fold max z f = s.sup f := by
  rw [hz]; rfl

/-- A reduction by maximum from −∞ along one axis is the largest entry. -/
theorem reduce_max {s t u : Shape} {a : Fin s.rank} (x : FVec Ideal s .f32) (init : u.Idx → EReal) (h' : s.ReducesTo [a] t)
    (h : s.Reduces [a] t) (hu : 0 < u.numel) (hi : init (Shape.Idx.first hu) = ⊥) (j : t.Idx) :
    Host.reduce (FloatOps.maximumf (F := Ideal) (φ := .f32)) x init h' hu j
      = Finset.univ.sup fun k : Fin (s.size a) => (x (h.lift j k) : EReal) :=
  (Host.reduce_eq_fold_single (FloatOps.maximumf (F := Ideal) (φ := .f32)) x init h' h hu j).trans (fold_sup _ _ _ hi)

theorem max_bcast {t : Shape} (h : S_.BroadcastsInDim t ![]) (v : BitVec 32) (w : FVec Ideal t .f32) (i : t.Idx) :
    maximumf (broadcastInDim t ![] h (constant S_ .f32 v)) w i = max (Ideal.ofBits .f32 v) (w i) := rfl

theorem rowMax_eq (S : FVec Ideal S16x8x4096x4096 .f32) (b : Fin 16) (h : Fin 8) (q : Fin 4096) :
    rowMax S (ix3 b h q) = max (Ideal.ofBits .f32 0xFF800000#32) (Host.reduce (FloatOps.maximumf (F := Ideal) (φ := .f32)) S
      (constant S_ .f32 0xFF800000#32) reducesTo_S16x8x4096x4096_S16x8x4096_d3 h_S_ (ix3 b h q)) := by
  exact max_bcast _ _ _ _

theorem rowMax_apply (S : FVec Ideal S16x8x4096x4096 .f32) (b : Fin 16) (h : Fin 8) (q : Fin 4096) :
    rowMax S (ix3 b h q) = Finset.univ.sup fun k : Fin 4096 => (S (ix4 b h q k) : EReal) := by
  rw [rowMax_eq, ninf, max_eq_right bot_le, reduce_max S _ _ last_reduces h_S_ ninf]
  exact Finset.sup_congr rfl fun k _ => congrArg S (last_lift b h q k)

theorem expo_apply (S : FVec Ideal S16x8x4096x4096 .f32) (b : Fin 16) (h : Fin 8) (q k : Fin 4096) :
    expo S (ix4 b h q k) = Ideal.exp (S (ix4 b h q k) - rowMax S (ix3 b h q)) := by
  unfold expo
  pointwise

theorem weights_apply (E : FVec Ideal S16x8x4096x4096 .f32) (b : Fin 16) (h : Fin 8) (q k : Fin 4096) :
    weights E (ix4 b h q k) = Ideal.div (E (ix4 b h q k)) (∑ j : Fin 4096, E (ix4 b h q j) : EReal) := by
  unfold weights
  pointwise

theorem gated_apply (P : FVec Ideal S16x8x4096x4096 .f32) (b : Fin 16) (q : Fin 4096) (h : Fin 8) (v : Fin 128) :
    gated m c P (ix3 b q ⟨128 * h.val + v.val, by omega⟩) = (∑ r : Fin 256, a6 m c (ix3 r h v) * ∑ k : Fin 4096, a2 m c (ix3 b k r) * P (ix4 b h q k))
      * (a4 m c (ix3 b q ⟨128 * h.val + v.val, by omega⟩) * Ideal.div 1 (1 + Ideal.exp (-(a4 m c (ix3 b q ⟨128 * h.val + v.val, by omega⟩))))) := by
  unfold gated
  pointwise

end Cert.ReferenceIdeal.Att

end
-- ==== Proof.RefValue.lean ====
/- The reference's result, when its arguments are real numbers. -/
module

public import proofs.«01_k».proof.Proof.Ref
public import proofs.«01_k».proof.Proof.Model

@[expose] public section

set_option maxRecDepth 16384

noncomputable section

namespace Cert.ReferenceIdeal.Att

open Cert.ReferenceIdeal Cert.ReferenceIdeal.Gen Cert.ReferenceIdeal.Value Cert.Chunks Cert.Softmax Cert.Model
open Idealize.ShloMosaic Idealize.ShloMosaic.TcCoe

variable (m : (ℓ : Loc nD τ sig) → Buf (Elt Ideal) ℓ) (c : Dev nD) (D : Data)

/-- The arguments are these real numbers. -/
structure Real : Prop where
  qn : ∀ b s h n, a0 m c (ix4 b s h n) = (D.qn b s h n : EReal)
  qp : ∀ b s h p, a1 m c (ix4 b s h p) = (D.qp b s h p : EReal)
  ck : ∀ b s r, a2 m c (ix3 b s r) = (D.ck b s r : EReal)
  kp : ∀ b s p, a3 m c (ix3 b s p) = (D.kp b s p : EReal)
  wk : ∀ r h n, a5 m c (ix3 r h n) = (D.wk r h n : EReal)
  wv : ∀ r h n, a6 m c (ix3 r h n) = (D.wv r h n : EReal)

variable {m c D} (hR : Real m c D)
include hR

theorem scores_real (b : Fin 16) (h : Fin 8) (q k : Fin 4096) : (scores m c (ix4 b h q k) : EReal) = D.W b h q k := by
  rw [scores_apply]
  unfold Data.W Data.R
  refine if_congr Iff.rfl ?_ rfl
  simp only [hR.qn, hR.qp, hR.ck, hR.kp, hR.wk, ← EReal.coe_mul, ← coe_sum, ← EReal.coe_add]

theorem rowMax_real (b : Fin 16) (h : Fin 8) (q : Fin 4096) : ∃ Y : ℝ, rowMax (scores m c) (ix3 b h q) = (Y : EReal) := by
  rw [rowMax_apply]
  refine sup_real _ _ (fun k _ => ?_) (Finset.mem_univ q) ?_
  · rw [scores_real hR]; exact D.W_ne_top b h q k
  · rw [scores_real hR, D.W_self]; exact EReal.coe_ne_bot _

theorem value (b : Fin 16) (q : Fin 4096) (h : Fin 8) (v : Fin 128) :
    (res_main_v38 (F := Ideal) m c (ix3 b q ⟨128 * h.val + v.val, by omega⟩ : S16x4096x1024.Idx) : EReal) = (D.out b h q v : EReal)
      * (a4 m c (ix3 b q ⟨128 * h.val + v.val, by omega⟩) * Ideal.div 1 (1 + Ideal.exp (-(a4 m c (ix3 b q ⟨128 * h.val + v.val, by omega⟩))))) := by
  obtain ⟨Y, hY⟩ := rowMax_real hR b h q
  have hP : ∀ k, weights (expo (scores m c)) (ix4 b h q k)
      = Ideal.div (Ideal.exp (D.W b h q k - (Y : EReal))) (∑ j : Fin 4096, Ideal.exp (D.W b h q j - (Y : EReal))) := fun k => by
    rw [weights_apply]
    simp only [expo_apply, hY, scores_real hR]
  rw [res_eq, gated_apply, ← D.ref_order b h q Y v]
  refine congrArg (fun z : EReal => z * _) (Finset.sum_congr rfl fun r _ => ?_)
  rw [hR.wv]
  refine congrArg (fun z : EReal => _ * z) (Finset.sum_congr rfl fun k _ => ?_)
  rw [hR.ck, hP]

end Cert.ReferenceIdeal.Att

end
-- ==== Proof.Finite.lean ====
/- The precondition says that six of the arguments are real numbers. -/
module

public import proofs.«01_k».proof.Pre_finite
public import proofs.«01_k».proof.Proof.Chunks
public import Idealize.ShloMosaic.Lib.ReduceAll

@[expose] public section

noncomputable section

namespace Cert.Pre_finite

open Idealize.ShloMosaic Cert.Chunks

theorem real_of_lt {x : EReal} (h : Ideal.cmp .olt (max x (-x)) (Ideal.ofBits .f32 0x7F800000#32) = 1#1) : x = (x.toReal : EReal) := by
  rw [inf] at h
  induction x with
  | bot => exact absurd h (by simp [Ideal.cmp])
  | top => exact absurd h (by simp [Ideal.cmp])
  | coe r => rfl

instance : Subsingleton S_.Idx := ⟨fun a b => funext fun i => i.elim0⟩

theorem real_of_all {s : Shape} {axes : List (Fin s.rank)} (x : FVec Ideal s .f32) (bc : S_.BroadcastsInDim s ![]) (rt : s.ReducesTo axes S_)
    (hu : 0 < S_.numel) (j : S_.Idx) (e : Host.reduce IntOp.andi (cmpf .olt (Host.absf x) (broadcastInDim s ![] bc (constant S_ .f32 0x7F800000#32)))
      (constantI S_ 1 1#1) rt hu j = 1#1) (i : s.Idx) : (x i : EReal) = ((x i : EReal).toReal : EReal) :=
  real_of_lt (x := x i) (Host.reduce_andi_all _ _ _ _ j e i)

/-- The shape relations that the precondition states. -/
theorem facts : Facts := ⟨by decide, by decide, by decide, by decide, by decide, by decide, by decide, by decide, by decide, by decide, by decide⟩

variable [Facts]

theorem real (x0 : FVec Ideal S16x4096x8x128 .f32) (x1 : FVec Ideal S16x4096x8x64 .f32) (x2 : FVec Ideal S16x4096x256 .f32)
    (x3 : FVec Ideal S16x4096x64 .f32) (x4 : FVec Ideal S16x4096x1024 .f32) (x5 x6 : FVec Ideal S256x8x128 .f32)
    (h : fn (F := Ideal) x0 x1 x2 x3 x4 x5 x6 = fun _ => 1#1) :
    (∀ i, (x0 i : EReal) = ((x0 i : EReal).toReal : EReal)) ∧ (∀ i, (x1 i : EReal) = ((x1 i : EReal).toReal : EReal))
      ∧ (∀ i, (x2 i : EReal) = ((x2 i : EReal).toReal : EReal)) ∧ (∀ i, (x3 i : EReal) = ((x3 i : EReal).toReal : EReal))
      ∧ (∀ i, (x5 i : EReal) = ((x5 i : EReal).toReal : EReal)) ∧ (∀ i, (x6 i : EReal) = ((x6 i : EReal).toReal : EReal)) := by
  have e := congrFun h ix0
  unfold fn fn_part1 at e
  obtain ⟨e, h6⟩ := IntOp.andi_eq_one.1 e
  obtain ⟨e, h5⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨real_of_all x0 _ _ _ _ h0, real_of_all x1 _ _ _ _ h1, real_of_all x2 _ _ _ _ h2, real_of_all x3 _ _ _ _ h3,
    real_of_all x5 _ _ _ _ h5, real_of_all x6 _ _ _ _ h6⟩

end Cert.Pre_finite

end
-- ==== Proof.Attention.lean ====
/- The kernel's output is the reference's result. -/
module

public import proofs.«01_k».proof.Defs
public import proofs.«01_k».proof.Proof.KernelIdeal.Arrays
public import proofs.«01_k».proof.Proof.RefValue
public import proofs.«01_k».proof.Proof.Finite

@[expose] public section

set_option maxRecDepth 16384

noncomputable section

namespace Cert.KernelIdeal.Arr

open Cert.KernelIdeal Cert.KernelIdeal.Gen Cert.KernelIdeal.HostVal Cert.Softmax Cert.Model Cert.Chunks
open Idealize.ShloMosaic Idealize.ShloMosaic.TcCoe Idealize.SL.Sem
open Idealize.ShloMosaic.Pipeline (Dat RDat)
open Cert.KernelIdeal.Att (headOf tokOf)

variable (m : (ℓ : Loc nD τ sig) → Buf (Elt Ideal) ℓ) (c : Dev nD)

/-- The real numbers in the arguments. -/
def data : Data where
  qn b s h n := (a0 m c (ix4 b s h n)).toReal
  qp b s h p := (a1 m c (ix4 b s h p)).toReal
  ck b s r := (a2 m c (ix3 b s r)).toReal
  kp b s p := (a3 m c (ix3 b s p)).toReal
  wk r h n := (a5 m c (ix3 r h n)).toReal
  wv r h n := (a6 m c (ix3 r h n)).toReal

/-- The gated attention at batch `b`, token `s`, head `h`, channel `v`. -/
def gatedOut (b : Fin 16) (s : Fin 4096) (h : Fin 8) (v : Fin 128) (e : Fin 1024) : EReal :=
  ((data m c).out b h s v : EReal) * (a4 m c (ix3 b s e) * Ideal.div 1 (1 + Ideal.exp (-(a4 m c (ix3 b s e)))))

/-- The output array. -/
def outArr : Buf (Elt Ideal) ((c : Thread nD τ).loc main_v53) := fun i : S16x4096x1024.Idx =>
  gatedOut m c (i 0) (i 1) ⟨(i 2).val / 128, by have h : (i 2).val < 1024 := (i 2).isLt; omega⟩ ⟨(i 2).val % 128, by omega⟩ (i 2)

theorem outArr_apply (b : Fin 16) (s : Fin 4096) (h : Fin 8) (v : Fin 128) (e : Fin 1024) (he : e.val = 128 * h.val + v.val) :
    outArr m c (ix3 b s e : S16x4096x1024.Idx) = gatedOut m c b s h v e := by
  have h1 : (⟨e.val / 128, by omega⟩ : Fin 8) = h := Fin.ext (by show e.val / 128 = h.val; omega)
  have h2 : (⟨e.val % 128, by omega⟩ : Fin 128) = v := Fin.ext (by show e.val % 128 = v.val; omega)
  show gatedOut m c b s ⟨e.val / 128, by omega⟩ ⟨e.val % 128, by omega⟩ e = _
  rw [h1, h2]

variable {m c} (hR : Real m c (data m c))
include hR

/-- A block that a point leaves is its block of the output array. -/
theorem block_eq (t : Fin cfg0.N) (X : Vec Ideal S1x512x512 .bf16) (hL : Body.Rl (F := Ideal) m c 5 t X) :
    X = (win0_5.blk t).view.read (Elt Ideal) (outArr m c) := by
  refine funext fun y => ?_
  obtain ⟨cc, z, rfl⟩ : ∃ (cc z : Fin 512), y = (ix3 0 cc z : S1x512x512.Idx) :=
    ⟨y 1, y 2, funext fun a => match a with | ⟨0, _⟩ => Subsingleton.elim (α := Fin 1) _ _ | ⟨1, _⟩ => rfl | ⟨2, _⟩ => rfl⟩
  have hr : (win0_5.blk t).view.read (Elt Ideal) (outArr m c) (ix3 0 cc z) = outArr m c (ix3 (bat t) (tokOf (til t) cc) (colOf t z) : S16x4096x1024.Idx) :=
    congrArg (outArr m c) (emb_o t cc z)
  have hz : z.val = 128 * (⟨z.val / 128, by omega⟩ : Fin 4).val + (⟨z.val % 128, by omega⟩ : Fin 128).val := by
    show z.val = 128 * (z.val / 128) + z.val % 128
    omega
  refine (point hR t X hL ⟨z.val / 128, by omega⟩ cc ⟨z.val % 128, by omega⟩ z hz).trans (Eq.trans ?_ hr.symm)
  refine Eq.trans ?_ (outArr_apply m c (bat t) (tokOf (til t) cc) (headOf (grp t) ⟨z.val / 128, by omega⟩) ⟨z.val % 128, by omega⟩ (colOf t z) ?_).symm
  · exact congrArg (fun w : EReal => _ * w) (V_gate m c (ix3 (bat t) (tokOf (til t) cc) (colOf t z)))
  · show 512 * (t.val / 8 % 2) + z.val = 128 * (4 * (t.val / 8 % 2) + z.val / 128) + z.val % 128
    omega

omit hR in
/-- Every index of the output array is in the block of its batch, group of heads and query tile. -/
theorem cover (i : S16x4096x1024.Idx) : ∃ t : Fin cfg0.N, (cfg0.win 5).flush t = true ∧ i ∈ ((cfg0.win 5).blk t).view.set := by
  have hb : (i 0).val < 16 := (i 0).isLt
  have hs : (i 1).val < 4096 := (i 1).isLt
  have he : (i 2).val < 1024 := (i 2).isLt
  obtain ⟨t, ht⟩ : ∃ t : Fin grid0.N, t.val = (i 0).val * 16 + (i 2).val / 512 * 8 + (i 1).val / 512 :=
    ⟨⟨(i 0).val * 16 + (i 2).val / 512 * 8 + (i 1).val / 512, by show _ < 256; omega⟩, rfl⟩
  have hi : i = (win0_5.rect t).emb (ix3 0 ⟨(i 1).val % 512, by omega⟩ ⟨(i 2).val % 512, by omega⟩) := by
    rw [emb_o]
    refine funext fun a => Fin.ext ?_
    match a with
    | ⟨0, _⟩ => show (i 0).val = t.val / 16; omega
    | ⟨1, _⟩ => show (i 1).val = 512 * (t.val % 8) + (i 1).val % 512; omega
    | ⟨2, _⟩ => show (i 2).val = 512 * (t.val / 8 % 2) + (i 2).val % 512; omega
  refine ⟨t, flush0_5 _, ?_⟩
  rw [hi]
  exact ((cfg0.win 5).blk t).view.emb_mem_set _

/-- After the run the output array is the gated attention. -/
theorem final (r : PUnit × MemSt nD τ sig (Elt Ideal)) (h : RDat.FramePost cfg0 (Body.rdat (F := Ideal) m) (V m) r) :
    r.2.mem ((c : Thread nD τ).loc main_v53) = outArr m c := by
  obtain ⟨after, hL, hA⟩ := h.exists_exact c
  refine (hA 5).trans ?_
  refine ((Body.rdat (F := Ideal) m c).withAfter after).arrAt_eq_of_cover 5 (outArr m c) (fun t hf => ?_) cover
  exact block_eq hR t (after 5 t) (Dat.toRRel_leaves (Body.dats (F := Ideal) m c) (fgt := Body.fgt) (w := 5) rfl (hL 5 t hf))

end Cert.KernelIdeal.Arr

namespace Cert.Proof

open Idealize.ShloMosaic Idealize.ShloMosaic.TcCoe Idealize.SL.Sem
open Idealize.ShloMosaic.Pipeline (Dat RDat)
open Cert.KernelIdeal.Arr Cert.KernelIdeal.Gen

theorem attention : Cert.algebraic_KernelIdeal_ReferenceIdeal_pre_finite
    (hKernelIdeal := Cert.KernelIdeal.Gen.facts) (hReferenceIdeal := Cert.ReferenceIdeal.Gen.facts) (hPre_finite := Cert.Pre_finite.facts) := by
  intro m g m' g' hpre hargs
  haveI := Cert.Pre_finite.facts
  have hR : ∀ c, Cert.KernelIdeal.Arr.Real m c (data m c) := fun c => by
    obtain ⟨h0, h1, h2, h3, h5, h6⟩ := Cert.Pre_finite.real _ _ _ _ _ _ _ (hpre c)
    exact ⟨fun _ _ _ _ => h0 _, fun _ _ _ _ => h1 _, fun _ _ _ => h2 _, fun _ _ _ => h3 _, fun _ _ _ => h5 _, fun _ _ _ => h6 _⟩
  refine ⟨fun c => outArr m c, ?_, ?_⟩
  · refine (θ_run _ _ _).mono (fun r h c => ⟨final (hR c) r h.1,
      ((h.1 c).2 Cert.KernelIdeal.main_arg0 (Pipeline.mem_restRefs_of Cert.KernelIdeal.main_arg0 (by decide) (by decide))).trans (V_main_arg0 m c),
      ((h.1 c).2 Cert.KernelIdeal.main_arg1 (Pipeline.mem_restRefs_of Cert.KernelIdeal.main_arg1 (by decide) (by decide))).trans (V_main_arg1 m c),
      ((h.1 c).2 Cert.KernelIdeal.main_arg2 (Pipeline.mem_restRefs_of Cert.KernelIdeal.main_arg2 (by decide) (by decide))).trans (V_main_arg2 m c),
      ((h.1 c).2 Cert.KernelIdeal.main_arg3 (Pipeline.mem_restRefs_of Cert.KernelIdeal.main_arg3 (by decide) (by decide))).trans (V_main_arg3 m c),
      ((h.1 c).2 Cert.KernelIdeal.main_arg4 (Pipeline.mem_restRefs_of Cert.KernelIdeal.main_arg4 (by decide) (by decide))).trans (V_main_arg4 m c),
      ((h.1 c).2 Cert.KernelIdeal.main_arg5 (Pipeline.mem_restRefs_of Cert.KernelIdeal.main_arg5 (by decide) (by decide))).trans (V_main_arg5 m c),
      ((h.1 c).2 Cert.KernelIdeal.main_arg6 (Pipeline.mem_restRefs_of Cert.KernelIdeal.main_arg6 (by decide) (by decide))).trans (V_main_arg6 m c)⟩)
      (Cert.KernelIdeal.Body.run_main (F := Ideal) m g)
  · refine (θ_run _ _ _).mono (fun r h c => ⟨(h c).1.trans ?_, (h c).2⟩) (Cert.ReferenceIdeal.Value.run (F := Ideal) m' g')
    obtain ⟨h0, h1, h2, h3, h4, h5, h6⟩ := hargs c
    have hR' : Cert.ReferenceIdeal.Att.Real m' c (data m c) :=
      ⟨fun b s h n => (congrFun h0 _).trans ((hR c).qn b s h n), fun b s h p => (congrFun h1 _).trans ((hR c).qp b s h p),
        fun b s r => (congrFun h2 _).trans ((hR c).ck b s r), fun b s p => (congrFun h3 _).trans ((hR c).kp b s p),
        fun r h n => (congrFun h5 _).trans ((hR c).wk r h n), fun r h n => (congrFun h6 _).trans ((hR c).wv r h n)⟩
    have h4' : Cert.ReferenceIdeal.Att.a4 m' c = Cert.KernelIdeal.HostVal.a4 m c := h4
    refine funext fun i : Cert.KernelIdeal.S16x4096x1024.Idx => ?_
    obtain ⟨b, s, h, v, rfl⟩ : ∃ (b : Fin 16) (s : Fin 4096) (h : Fin 8) (v : Fin 128),
        i = (ix3 b s ⟨128 * h.val + v.val, by omega⟩ : Cert.KernelIdeal.S16x4096x1024.Idx) := by
      have he : (i 2).val < 1024 := (i 2).isLt
      refine ⟨i 0, i 1, ⟨(i 2).val / 128, by omega⟩, ⟨(i 2).val % 128, by omega⟩, funext fun a => Fin.ext ?_⟩
      match a with
      | ⟨0, _⟩ => rfl
      | ⟨1, _⟩ => rfl
      | ⟨2, _⟩ => show (i 2).val = 128 * ((i 2).val / 128) + (i 2).val % 128; omega
    refine (Cert.ReferenceIdeal.Att.value hR' b s h v).trans (Eq.trans ?_ (outArr_apply m c b s h v _ rfl).symm)
    rw [h4']
    rfl

end Cert.Proof

end
-- ==== Proof.lean ====
/- The claim: the frames of both kernels and references, the two idealizations, and the values. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Kernel.Run
public import proofs.«01_k».proof.Proof.KernelIdeal.Run
public import proofs.«01_k».proof.Proof.Outproj
public import proofs.«01_k».proof.Proof.Modulation
public import proofs.«01_k».proof.Proof.Attention
public import Idealize.ShloMosaic.Lib.Quiescent
public import Idealize.ShloMosaic.Adequacy
public import Idealize.ShloMosaic.Init

@[expose] public section

noncomputable section

namespace Cert.Proof

open Idealize.ShloMosaic Idealize.SL.Sem

/-- The attention's reference leaves its arguments as they were. -/
theorem reference_frame : Cert.quiescent_ReferenceIdeal (hReferenceIdeal := Cert.ReferenceIdeal.Gen.facts) :=
  fun m ρ _ => (θ_run Cert.ReferenceIdeal.defs _ _).mono
    (fun _ h => ⟨fun c => (h c).2, sem_eq_zero_of_no_sems rfl _⟩) (Cert.ReferenceIdeal.Value.run m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_finite.facts,
    fun m ρ _ => Cert.Kernel.Body.frame m ρ,
    fun m ρ _ => Cert.KernelIdeal.Body.frame m ρ,
    fun m ρ _ => Cert.KernelIdeal.Body.frame m ρ,
    fun m ρ _ => reference_frame m ρ trivial,
    fun m ρ _ => reference_frame m ρ trivial,
    fun m ρ _ => Cert.Kernel2.Gen.frame m ρ,
    fun m ρ _ => Cert.Kernel2Ideal.Gen.frame m ρ,
    fun m ρ _ => (θ_run Cert.Reference2Ideal.defs _ _).mono
      (fun _ h => ⟨fun c => (h c).2, sem_eq_zero_of_no_sems rfl _⟩) (Cert.Reference2Ideal.Value.run m ρ),
    fun m ρ _ => Cert.Kernel3.Gen.frame m ρ,
    fun m ρ _ => Cert.Kernel3Ideal.Gen.frame m ρ,
    fun m ρ _ => (θ_run Cert.Reference3Ideal.defs _ _).mono
      (fun _ h => ⟨fun c => (h c).2, sem_eq_zero_of_no_sems rfl _⟩) (Cert.Reference3Ideal.Value.run m ρ),
    IdealRules.named_const.statement Cert.KernelIdeal.κ "mask" .f32 0xF149F2CA#32 ⊥ rfl,
    attention, trivial, outproj, trivial, modulation⟩

end Cert.Proof

end
